-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_on_grid [hPre_scores_on_grid : Cert.Pre_scores_on_grid.Facts] (m : (ℓ : Loc Cert.KernelIdeal.nD Cert.KernelIdeal.τ Cert.KernelIdeal.sig) → Buf (Elt Ideal) ℓ) : Prop :=
  ∀ c : Dev Cert.KernelIdeal.nD,
    (Cert.Pre_scores_on_grid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_on_grid [hPre_scores_on_grid : Cert.Pre_scores_on_grid.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_on_grid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_scores_on_grid [hKernelIdeal : Cert.KernelIdeal.Facts] [hPre_scores_on_grid : Cert.Pre_scores_on_grid.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_on_grid m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_scores_on_grid [hReferenceIdeal : Cert.ReferenceIdeal.Facts] [hPre_scores_on_grid : Cert.Pre_scores_on_grid.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_on_grid m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_scores_on_grid [hKernelIdeal : Cert.KernelIdeal.Facts] [hReferenceIdeal : Cert.ReferenceIdeal.Facts] [hPre_scores_on_grid : Cert.Pre_scores_on_grid.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_on_grid m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v120) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_scores_on_grid : Cert.Pre_scores_on_grid.Facts),
    quiescent_Kernel (hKernel := hKernel)
    ∧ quiescent_KernelIdeal (hKernelIdeal := hKernelIdeal)
    ∧ quiescent_KernelIdeal_pre_scores_on_grid (hKernelIdeal := hKernelIdeal) (hPre_scores_on_grid := hPre_scores_on_grid)
    ∧ quiescent_ReferenceIdeal (hReferenceIdeal := hReferenceIdeal)
    ∧ quiescent_ReferenceIdeal_pre_scores_on_grid (hReferenceIdeal := hReferenceIdeal) (hPre_scores_on_grid := hPre_scores_on_grid)
    ∧ preserves_Kernel_KernelIdeal
    ∧ algebraic_KernelIdeal_ReferenceIdeal_pre_scores_on_grid (hKernelIdeal := hKernelIdeal) (hReferenceIdeal := hReferenceIdeal) (hPre_scores_on_grid := hPre_scores_on_grid)
-- ==== Pre_scores_on_grid.lean ====
abbrev S1x5000x4 : Shape := ⟨3, ![1, 5000, 4]⟩
abbrev S1x5000 : Shape := ⟨2, ![1, 5000]⟩
abbrev S1x64x4 : Shape := ⟨3, ![1, 64, 4]⟩
abbrev S1x64 : Shape := ⟨2, ![1, 64]⟩
abbrev S5000 : Shape := ⟨1, ![5000]⟩
abbrev S_ : Shape := ⟨0, ![]⟩
abbrev S64x4 : Shape := ⟨2, ![64, 4]⟩
abbrev S5000x4 : Shape := ⟨2, ![5000, 4]⟩
abbrev S64 : Shape := ⟨1, ![64]⟩
abbrev S64x2 : Shape := ⟨2, ![64, 2]⟩
abbrev S64x1x2 : Shape := ⟨3, ![64, 1, 2]⟩
abbrev S5000x2 : Shape := ⟨2, ![5000, 2]⟩
abbrev S1x5000x2 : Shape := ⟨3, ![1, 5000, 2]⟩
abbrev S64x5000x2 : Shape := ⟨3, ![64, 5000, 2]⟩
abbrev S64x5000x1 : Shape := ⟨3, ![64, 5000, 1]⟩
abbrev S64x5000 : Shape := ⟨2, ![64, 5000]⟩
abbrev S64x1 : Shape := ⟨2, ![64, 1]⟩
abbrev S5000x1 : Shape := ⟨2, ![5000, 1]⟩

class Facts : Prop where
  shapeCasts_S1x5000_S5000 : S1x5000.ShapeCasts S5000
  bcast_S_S5000 : S_.BroadcastsInDim S5000 (![] : Fin 0 → Fin S5000.rank)
  shapeCasts_S1x64x4_S64x4 : S1x64x4.ShapeCasts S64x4
  shapeCasts_S1x5000x4_S5000x4 : S1x5000x4.ShapeCasts S5000x4
  shapeCasts_S1x64_S64 : S1x64.ShapeCasts S64
  slices_S64x4_S64x2_0_0 : S64x4.Slices ![0, 0] S64x2
  bcast_S64x2_S64x1x2_0_2 : S64x2.BroadcastsInDim S64x1x2 (![0, 2] : Fin 2 → Fin S64x1x2.rank)
  slices_S5000x4_S5000x2_0_0 : S5000x4.Slices ![0, 0] S5000x2
  bcast_S5000x2_S1x5000x2_1_2 : S5000x2.BroadcastsInDim S1x5000x2 (![1, 2] : Fin 2 → Fin S1x5000x2.rank)
  bcast_S64x1x2_S64x5000x2_0_1_2 : S64x1x2.BroadcastsInDim S64x5000x2 (![0, 1, 2] : Fin 3 → Fin S64x5000x2.rank)
  bcast_S1x5000x2_S64x5000x2_0_1_2 : S1x5000x2.BroadcastsInDim S64x5000x2 (![0, 1, 2] : Fin 3 → Fin S64x5000x2.rank)
  slices_S64x4_S64x2_0_2 : S64x4.Slices ![0, 2] S64x2
  slices_S5000x4_S5000x2_0_2 : S5000x4.Slices ![0, 2] S5000x2
  bcast_S_S64x5000x2 : S_.BroadcastsInDim S64x5000x2 (![] : Fin 0 → Fin S64x5000x2.rank)
  slices_S64x5000x2_S64x5000x1_0_0_0 : S64x5000x2.Slices ![0, 0, 0] S64x5000x1
  shapeCasts_S64x5000x1_S64x5000 : S64x5000x1.ShapeCasts S64x5000
  slices_S64x5000x2_S64x5000x1_0_0_1 : S64x5000x2.Slices ![0, 0, 1] S64x5000x1
  slices_S64x4_S64x1_0_2 : S64x4.Slices ![0, 2] S64x1
  shapeCasts_S64x1_S64 : S64x1.ShapeCasts S64
  slices_S64x4_S64x1_0_0 : S64x4.Slices ![0, 0] S64x1
  slices_S64x4_S64x1_0_3 : S64x4.Slices ![0, 3] S64x1
  slices_S64x4_S64x1_0_1 : S64x4.Slices ![0, 1] S64x1
  slices_S5000x4_S5000x1_0_2 : S5000x4.Slices ![0, 2] S5000x1
  shapeCasts_S5000x1_S5000 : S5000x1.ShapeCasts S5000
  slices_S5000x4_S5000x1_0_0 : S5000x4.Slices ![0, 0] S5000x1
  slices_S5000x4_S5000x1_0_3 : S5000x4.Slices ![0, 3] S5000x1
  slices_S5000x4_S5000x1_0_1 : S5000x4.Slices ![0, 1] S5000x1
  bcast_S64_S64x1_0 : S64.BroadcastsInDim S64x1 (![0] : Fin 1 → Fin S64x1.rank)
  bcast_S5000_S1x5000_1 : S5000.BroadcastsInDim S1x5000 (![1] : Fin 1 → Fin S1x5000.rank)
  bcast_S64x1_S64x5000_0_1 : S64x1.BroadcastsInDim S64x5000 (![0, 1] : Fin 2 → Fin S64x5000.rank)
  bcast_S1x5000_S64x5000_0_1 : S1x5000.BroadcastsInDim S64x5000 (![0, 1] : Fin 2 → Fin S64x5000.rank)
  reducesTo_S64x5000_S5000_d0 : S64x5000.ReducesTo [0] S5000
  h_S_ : 0 < S_.numel
  reducesTo_S64x5000_S64_d1 : S64x5000.ReducesTo [1] S64
  bcast_S_S64 : S_.BroadcastsInDim S64 (![] : Fin 0 → Fin S64.rank)
  bcast_S5000_S5000x1_0 : S5000.BroadcastsInDim S5000x1 (![0] : Fin 1 → Fin S5000x1.rank)
  reducesTo_S5000_S_d0 : S5000.ReducesTo [0] S_
  scatter_S5000_S64x1_S64_n_0_0_1_wf : ScatterDims.WF S5000 S64x1 S64 [] [0] [0] 1
  gather_S64_S5000x1_S5000_n_0_n_n_0_1_1_wf : GatherDims.WF S64 S5000x1 S5000 [] [0] [] [0] [] 1 ![1]

variable [Facts]

variable {F : FTy → Type} [FloatOps F]
def reducer_argmax_f32_i32 : F .f32 × BitVec 32 → F .f32 × BitVec 32 → F .f32 × BitVec 32 :=
  fun a b =>
    let v2 := FloatOps.cmpf .ogt a.1 b.1
    let v3 := FloatOps.cmpf .une a.1 a.1
    let v4 := IntOp.ori v2 v3
    let v5 := FloatOps.cmpf .oeq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)
def scatter_S5000_S64x1_S64_n_0_0_1 : ScatterDims S5000 S64x1 S64 where
  updateWindowDims := []
  insertedWindowDims := [0]
  scatterDimsToOperandDims := [0]
  indexVectorDim := 1
  wf := scatter_S5000_S64x1_S64_n_0_0_1_wf
def gather_S64_S5000x1_S5000_n_0_n_n_0_1_1 : GatherDims S64 S5000x1 S5000 where
  offsetDims := []
  collapsedSliceDims := [0]
  operandBatchingDims := []
  startIndicesBatchingDims := []
  startIndexMap := [0]
  indexVectorDim := 1
  sliceSizes := ![1]
  wf := gather_S64_S5000x1_S5000_n_0_n_n_0_1_1_wf

def fn_clip {F : FTy → Type} [FloatOps F] (arg0 : FVec F S64x5000x2 .f32) (arg1 : FVec F S_ .f32) : FVec F S64x5000x2 .f32 :=
  let v0 : FVec F S_ .f32 := id arg1
  let v1 : FVec F S64x5000x2 .f32 := broadcastInDim S64x5000x2 ![] bcast_S_S64x5000x2 v0
  let v2 : FVec F S64x5000x2 .f32 := maximumf v1 arg0
  v2

def fn_argmax {F : FTy → Type} [FloatOps F] (arg0 : FVec F S64x5000 .f32) : IVec S5000 32 :=
  let v0 : IVec S64x5000 32 := iotaInDim S64x5000 32 0
  let cst : FVec F S_ .f32 := constant S_ .f32 0xFF800000#32
  let c : IVec S_ 32 := constantI S_ 32 0#32
  let v1_0 : FVec F S5000 .f32 := (fun x y u v j => (Host.argReduce reducer_argmax_f32_i32 x y u v reducesTo_S64x5000_S5000_d0 h_S_ j).1) arg0 v0 cst c
  let v1_1 : IVec S5000 32 := (fun x y u v j => (Host.argReduce reducer_argmax_f32_i32 x y u v reducesTo_S64x5000_S5000_d0 h_S_ j).2) arg0 v0 cst c
  v1_1

def fn_argmax_0 {F : FTy → Type} [FloatOps F] (arg0 : FVec F S64x5000 .f32) : IVec S64 32 :=
  let v0 : IVec S64x5000 32 := iotaInDim S64x5000 32 1
  let cst : FVec F S_ .f32 := constant S_ .f32 0xFF800000#32
  let c : IVec S_ 32 := constantI S_ 32 0#32
  let v1_0 : FVec F S64 .f32 := (fun x y u v j => (Host.argReduce reducer_argmax_f32_i32 x y u v reducesTo_S64x5000_S64_d1 h_S_ j).1) arg0 v0 cst c
  let v1_1 : IVec S64 32 := (fun x y u v j => (Host.argReduce reducer_argmax_f32_i32 x y u v reducesTo_S64x5000_S64_d1 h_S_ j).2) arg0 v0 cst c
  v1_1

def fn_where {F : FTy → Type} [FloatOps F] (arg0 : IVec S5000 1) (arg1 : IVec S_ 32) (arg2 : IVec S5000 32) : IVec S5000 32 :=
  let v0 : IVec S_ 32 := id arg1
  let v1 : IVec S5000 32 := broadcastInDim S5000 ![] bcast_S_S5000 v0
  let v2 : IVec S5000 32 := select arg0 v1 arg2
  v2

def fn_part4 {F : FTy → Type} [FloatOps F] (main_v10 : IVec S5000 1) (main_v13 : IVec S64 32) (main_v74 : IVec S5000 32) (main_v82 : FVec F S5000 .f32) (main_v84 : IVec S5000 1) : IVec S5000 1 :=
  let main_c_9 : IVec S_ 32 := constantI S_ 32 64#32
  let main_v85 : IVec S5000 32 := broadcastInDim S5000 ![] bcast_S_S5000 main_c_9
  let main_v86 : IVec S5000 32 := addi main_v74 main_v85
  let main_v87 : IVec S5000 32 := select main_v84 main_v86 main_v74
  let main_v88 : IVec S5000x1 32 := broadcastInDim S5000x1 ![0] bcast_S5000_S5000x1_0 main_v87
  let main_v89 : IVec S5000 32 := (fun x i => Host.gather gather_S64_S5000x1_S5000_n_0_n_n_0_1_1 x i) main_v13 main_v88
  let main_cst_10 : FVec F S_ .f32 := constant S_ .f32 0x3F000000#32
  let main_v90 : FVec F S5000 .f32 := broadcastInDim S5000 ![] bcast_S_S5000 main_cst_10
  let main_v91 : IVec S5000 1 := cmpf .olt main_v82 main_v90
  let main_c_11 : IVec S_ 32 := constantI S_ 32 0#32
  let main_v92 : IVec S5000 32 := fn_where (F := F) main_v91 main_c_11 main_v89
  let main_c_12 : IVec S_ 32 := constantI S_ 32 0#32
  let main_v93 : IVec S5000 32 := broadcastInDim S5000 ![] bcast_S_S5000 main_c_12
  let main_v94 : IVec S5000 1 := cmpi .ne main_v92 main_v93
  let main_v95 : FVec F S5000 .f32 := uitofp .f32 main_v94
  let main_cst_13 : FVec F S_ .f32 := constant S_ .f32 0x00000000#32
  let main_v96 : FVec F S_ .f32 := (fun x v => Host.reduceAdd x v reducesTo_S5000_S_d0 h_S_) main_v95 main_cst_13
  let main_cst_14 : FVec F S_ .f32 := constant S_ .f32 0x40800000#32
  let main_v97 : FVec F S_ .f32 := mulf main_cst_14 main_v96
  let main_cst_15 : FVec F S_ .f32 := constant S_ .f32 0x459C4000#32
  let main_v98 : IVec S_ 1 := cmpf .ole main_v97 main_cst_15
  let main_v99 : IVec S5000 1 := broadcastInDim S5000 ![] bcast_S_S5000 main_v98
  let main_v100 : IVec S5000 1 := andi main_v10 main_v99
  main_v100

def fn_part3 {F : FTy → Type} [FloatOps F] (main_v10 : IVec S5000 1) (main_v13 : IVec S64 32) (main_v64 : FVec F S5000 .f32) (main_v65 : IVec S5000 32) (main_v66 : IVec S64 32) : IVec S5000 1 :=
  let main_v67 : IVec S64 32 := iotaInDim S64 32 0
  let main_c : IVec S_ 32 := constantI S_ 32 0#32
  let main_v68 : IVec S64 32 := broadcastInDim S64 ![] bcast_S_S64 main_c
  let main_v69 : IVec S64 1 := cmpi .slt main_v66 main_v68
  let main_c_4 : IVec S_ 32 := constantI S_ 32 5000#32
  let main_v70 : IVec S64 32 := broadcastInDim S64 ![] bcast_S_S64 main_c_4
  let main_v71 : IVec S64 32 := addi main_v66 main_v70
  let main_v72 : IVec S64 32 := select main_v69 main_v71 main_v66
  let main_v73 : IVec S64x1 32 := broadcastInDim S64x1 ![0] bcast_S64_S64x1_0 main_v72
  let main_v74 : IVec S5000 32 := (fun x i u => Host.scatter scatter_S5000_S64x1_S64_n_0_0_1 (fun _ b => b) x i u) main_v65 main_v73 main_v67
  let main_c_5 : IVec S_ 32 := constantI S_ 32 0#32
  let main_v75 : IVec S64 32 := broadcastInDim S64 ![] bcast_S_S64 main_c_5
  let main_v76 : IVec S64 1 := cmpi .slt main_v66 main_v75
  let main_c_6 : IVec S_ 32 := constantI S_ 32 5000#32
  let main_v77 : IVec S64 32 := broadcastInDim S64 ![] bcast_S_S64 main_c_6
  let main_v78 : IVec S64 32 := addi main_v66 main_v77
  let main_v79 : IVec S64 32 := select main_v76 main_v78 main_v66
  let main_v80 : IVec S64x1 32 := broadcastInDim S64x1 ![0] bcast_S64_S64x1_0 main_v79
  let main_cst_7 : FVec F S_ .f32 := constant S_ .f32 0x3F800000#32
  let main_v81 : FVec F S64 .f32 := broadcastInDim S64 ![] bcast_S_S64 main_cst_7
  let main_v82 : FVec F S5000 .f32 := (fun x i u => Host.scatter scatter_S5000_S64x1_S64_n_0_0_1 (fun _ b => b) x i u) main_v64 main_v80 main_v81
  let main_c_8 : IVec S_ 32 := constantI S_ 32 0#32
  let main_v83 : IVec S5000 32 := broadcastInDim S5000 ![] bcast_S_S5000 main_c_8
  let main_v84 : IVec S5000 1 := cmpi .slt main_v74 main_v83
  fn_part4 (F := F) main_v10 main_v13 main_v74 main_v82 main_v84

def fn_part2 {F : FTy → Type} [FloatOps F] (main_v10 : IVec S5000 1) (main_v12 : FVec F S5000x4 .f32) (main_v13 : IVec S64 32) (main_v34 : FVec F S64x5000 .f32) (main_v39 : FVec F S64 .f32) (main_v41 : FVec F S64 .f32) (main_v43 : FVec F S64 .f32) : IVec S5000 1 :=
  let main_v44 : FVec F S64 .f32 := subf main_v41 main_v43
  let main_v45 : FVec F S64 .f32 := mulf main_v39 main_v44
  let main_v46 : FVec F S5000x1 .f32 := (extractStridedSlice S5000x1 ![0, 2] · slices_S5000x4_S5000x1_0_2) main_v12
  let main_v47 : FVec F S5000 .f32 := shapeCast S5000 main_v46 shapeCasts_S5000x1_S5000
  let main_v48 : FVec F S5000x1 .f32 := (extractStridedSlice S5000x1 ![0, 0] · slices_S5000x4_S5000x1_0_0) main_v12
  let main_v49 : FVec F S5000 .f32 := shapeCast S5000 main_v48 shapeCasts_S5000x1_S5000
  let main_v50 : FVec F S5000 .f32 := subf main_v47 main_v49
  let main_v51 : FVec F S5000x1 .f32 := (extractStridedSlice S5000x1 ![0, 3] · slices_S5000x4_S5000x1_0_3) main_v12
  let main_v52 : FVec F S5000 .f32 := shapeCast S5000 main_v51 shapeCasts_S5000x1_S5000
  let main_v53 : FVec F S5000x1 .f32 := (extractStridedSlice S5000x1 ![0, 1] · slices_S5000x4_S5000x1_0_1) main_v12
  let main_v54 : FVec F S5000 .f32 := shapeCast S5000 main_v53 shapeCasts_S5000x1_S5000
  let main_v55 : FVec F S5000 .f32 := subf main_v52 main_v54
  let main_v56 : FVec F S5000 .f32 := mulf main_v50 main_v55
  let main_v57 : FVec F S64x1 .f32 := broadcastInDim S64x1 ![0] bcast_S64_S64x1_0 main_v45
  let main_v58 : FVec F S1x5000 .f32 := broadcastInDim S1x5000 ![1] bcast_S5000_S1x5000_1 main_v56
  let main_v59 : FVec F S64x5000 .f32 := broadcastInDim S64x5000 ![0, 1] bcast_S64x1_S64x5000_0_1 main_v57
  let main_v60 : FVec F S64x5000 .f32 := broadcastInDim S64x5000 ![0, 1] bcast_S1x5000_S64x5000_0_1 main_v58
  let main_v61 : FVec F S64x5000 .f32 := addf main_v59 main_v60
  let main_v62 : FVec F S64x5000 .f32 := subf main_v61 main_v34
  let main_v63 : FVec F S64x5000 .f32 := Host.divf main_v34 main_v62
  let main_cst_3 : FVec F S_ .f32 := constant S_ .f32 0xFF800000#32
  let main_v64 : FVec F S5000 .f32 := (fun x v => Host.reduce FloatOps.maximumf x v reducesTo_S64x5000_S5000_d0 h_S_) main_v63 main_cst_3
  let main_v65 : IVec S5000 32 := fn_argmax (F := F) main_v63
  let main_v66 : IVec S64 32 := fn_argmax_0 (F := F) main_v63
  fn_part3 (F := F) main_v10 main_v13 main_v64 main_v65 main_v66

def fn_part1 {F : FTy → Type} [FloatOps F] (main_v10 : IVec S5000 1) (main_v11 : FVec F S64x4 .f32) (main_v12 : FVec F S5000x4 .f32) (main_v13 : IVec S64 32) (main_v20 : FVec F S64x5000x2 .f32) : IVec S5000 1 :=
  let main_v21 : FVec F S64x2 .f32 := (extractStridedSlice S64x2 ![0, 2] · slices_S64x4_S64x2_0_2) main_v11
  let main_v22 : FVec F S64x1x2 .f32 := broadcastInDim S64x1x2 ![0, 2] bcast_S64x2_S64x1x2_0_2 main_v21
  let main_v23 : FVec F S5000x2 .f32 := (extractStridedSlice S5000x2 ![0, 2] · slices_S5000x4_S5000x2_0_2) main_v12
  let main_v24 : FVec F S1x5000x2 .f32 := broadcastInDim S1x5000x2 ![1, 2] bcast_S5000x2_S1x5000x2_1_2 main_v23
  let main_v25 : FVec F S64x5000x2 .f32 := broadcastInDim S64x5000x2 ![0, 1, 2] bcast_S64x1x2_S64x5000x2_0_1_2 main_v22
  let main_v26 : FVec F S64x5000x2 .f32 := broadcastInDim S64x5000x2 ![0, 1, 2] bcast_S1x5000x2_S64x5000x2_0_1_2 main_v24
  let main_v27 : FVec F S64x5000x2 .f32 := minimumf main_v25 main_v26
  let main_v28 : FVec F S64x5000x2 .f32 := subf main_v27 main_v20
  let main_cst_2 : FVec F S_ .f32 := constant S_ .f32 0x00000000#32
  let main_v29 : FVec F S64x5000x2 .f32 := fn_clip (F := F) main_v28 main_cst_2
  let main_v30 : FVec F S64x5000x1 .f32 := (extractStridedSlice S64x5000x1 ![0, 0, 0] · slices_S64x5000x2_S64x5000x1_0_0_0) main_v29
  let main_v31 : FVec F S64x5000 .f32 := shapeCast S64x5000 main_v30 shapeCasts_S64x5000x1_S64x5000
  let main_v32 : FVec F S64x5000x1 .f32 := (extractStridedSlice S64x5000x1 ![0, 0, 1] · slices_S64x5000x2_S64x5000x1_0_0_1) main_v29
  let main_v33 : FVec F S64x5000 .f32 := shapeCast S64x5000 main_v32 shapeCasts_S64x5000x1_S64x5000
  let main_v34 : FVec F S64x5000 .f32 := mulf main_v31 main_v33
  let main_v35 : FVec F S64x1 .f32 := (extractStridedSlice S64x1 ![0, 2] · slices_S64x4_S64x1_0_2) main_v11
  let main_v36 : FVec F S64 .f32 := shapeCast S64 main_v35 shapeCasts_S64x1_S64
  let main_v37 : FVec F S64x1 .f32 := (extractStridedSlice S64x1 ![0, 0] · slices_S64x4_S64x1_0_0) main_v11
  let main_v38 : FVec F S64 .f32 := shapeCast S64 main_v37 shapeCasts_S64x1_S64
  let main_v39 : FVec F S64 .f32 := subf main_v36 main_v38
  let main_v40 : FVec F S64x1 .f32 := (extractStridedSlice S64x1 ![0, 3] · slices_S64x4_S64x1_0_3) main_v11
  let main_v41 : FVec F S64 .f32 := shapeCast S64 main_v40 shapeCasts_S64x1_S64
  let main_v42 : FVec F S64x1 .f32 := (extractStridedSlice S64x1 ![0, 1] · slices_S64x4_S64x1_0_1) main_v11
  let main_v43 : FVec F S64 .f32 := shapeCast S64 main_v42 shapeCasts_S64x1_S64
  fn_part2 (F := F) main_v10 main_v12 main_v13 main_v34 main_v39 main_v41 main_v43

def fn {F : FTy → Type} [FloatOps F] (main_arg0 : FVec F S1x5000x4 .f32) (main_arg1 : FVec F S1x5000 .f32) (main_arg2 : IVec S1x5000 32) (main_arg3 : FVec F S1x64x4 .f32) (main_arg4 : IVec S1x64 32) : IVec S5000 1 :=
  let main_v0 : FVec F S5000 .f32 := shapeCast S5000 main_arg1 shapeCasts_S1x5000_S5000
  let main_cst : FVec F S_ .f32 := constant S_ .f32 0x4D000000#32
  let main_v1 : FVec F S5000 .f32 := broadcastInDim S5000 ![] bcast_S_S5000 main_cst
  let main_v2 : FVec F S5000 .f32 := mulf main_v0 main_v1
  let main_cst_0 : FVec F S_ .f32 := constant S_ .f32 0x00000000#32
  let main_v3 : FVec F S5000 .f32 := broadcastInDim S5000 ![] bcast_S_S5000 main_cst_0
  let main_v4 : IVec S5000 1 := cmpf .oge main_v0 main_v3
  let main_cst_1 : FVec F S_ .f32 := constant S_ .f32 0x3F800000#32
  let main_v5 : FVec F S5000 .f32 := broadcastInDim S5000 ![] bcast_S_S5000 main_cst_1
  let main_v6 : IVec S5000 1 := cmpf .olt main_v0 main_v5
  let main_v7 : IVec S5000 1 := andi main_v4 main_v6
  let main_v8 : FVec F S5000 .f32 := Host.floor main_v2
  let main_v9 : IVec S5000 1 := cmpf .oeq main_v8 main_v2
  let main_v10 : IVec S5000 1 := andi main_v7 main_v9
  let main_v11 : FVec F S64x4 .f32 := shapeCast S64x4 main_arg3 shapeCasts_S1x64x4_S64x4
  let main_v12 : FVec F S5000x4 .f32 := shapeCast S5000x4 main_arg0 shapeCasts_S1x5000x4_S5000x4
  let main_v13 : IVec S64 32 := shapeCast S64 main_arg4 shapeCasts_S1x64_S64
  let main_v14 : FVec F S64x2 .f32 := (extractStridedSlice S64x2 ![0, 0] · slices_S64x4_S64x2_0_0) main_v11
  let main_v15 : FVec F S64x1x2 .f32 := broadcastInDim S64x1x2 ![0, 2] bcast_S64x2_S64x1x2_0_2 main_v14
  let main_v16 : FVec F S5000x2 .f32 := (extractStridedSlice S5000x2 ![0, 0] · slices_S5000x4_S5000x2_0_0) main_v12
  let main_v17 : FVec F S1x5000x2 .f32 := broadcastInDim S1x5000x2 ![1, 2] bcast_S5000x2_S1x5000x2_1_2 main_v16
  let main_v18 : FVec F S64x5000x2 .f32 := broadcastInDim S64x5000x2 ![0, 1, 2] bcast_S64x1x2_S64x5000x2_0_1_2 main_v15
  let main_v19 : FVec F S64x5000x2 .f32 := broadcastInDim S64x5000x2 ![0, 1, 2] bcast_S1x5000x2_S64x5000x2_0_1_2 main_v17
  let main_v20 : FVec F S64x5000x2 .f32 := maximumf main_v18 main_v19
  fn_part1 (F := F) main_v10 main_v11 main_v12 main_v13 main_v20
-- ==== Kernel.lean ====
abbrev S1x5000x4 : Shape := ⟨3, ![1, 5000, 4]⟩
abbrev S1x5000 : Shape := ⟨2, ![1, 5000]⟩
abbrev S1x64x4 : Shape := ⟨3, ![1, 64, 4]⟩
abbrev S1x64 : Shape := ⟨2, ![1, 64]⟩
abbrev S1x1 : Shape := ⟨2, ![1, 1]⟩
abbrev S5000x4 : Shape := ⟨2, ![5000, 4]⟩
abbrev S64x4 : Shape := ⟨2, ![64, 4]⟩
abbrev S4x5000 : Shape := ⟨2, ![4, 5000]⟩
abbrev S64x1 : Shape := ⟨2, ![64, 1]⟩
abbrev S64x5000 : Shape := ⟨2, ![64, 5000]⟩
abbrev S5000 : Shape := ⟨1, ![5000]⟩
abbrev S64 : Shape := ⟨1, ![64]⟩
abbrev S4x64 : Shape := ⟨2, ![4, 64]⟩
abbrev S5x64 : Shape := ⟨2, ![5, 64]⟩
abbrev S5x5000 : Shape := ⟨2, ![5, 5000]⟩
abbrev S1x1x5000 : Shape := ⟨3, ![1, 1, 5000]⟩
abbrev S1 : Shape := ⟨1, ![1]⟩
abbrev S1x1x1 : Shape := ⟨3, ![1, 1, 1]⟩
abbrev S_ : Shape := ⟨0, ![]⟩

abbrev nBuf : Space → Nat
  | .hbm => 7
  | .vmem => 5
  | .smem => 0
  | _ => 0

abbrev bufTy : (tb : Table) → Fin (tcTables nBuf tb) → BufTy
  | .hbm, ⟨0, _⟩ => ⟨S1x5000x4, .f32⟩
  | .hbm, ⟨1, _⟩ => ⟨S1x5000, .f32⟩
  | .hbm, ⟨2, _⟩ => ⟨S1x5000, .i32⟩
  | .hbm, ⟨3, _⟩ => ⟨S1x64x4, .f32⟩
  | .hbm, ⟨4, _⟩ => ⟨S1x64, .i32⟩
  | .hbm, ⟨5, _⟩ => ⟨S1x1, .f32⟩
  | .hbm, ⟨6, _⟩ => ⟨S_, .f32⟩
  | .local _ .vmem, ⟨0, _⟩ => ⟨S1x5000x4, .f32⟩
  | .local _ .vmem, ⟨1, _⟩ => ⟨S1x5000, .f32⟩
  | .local _ .vmem, ⟨2, _⟩ => ⟨S1x64x4, .f32⟩
  | .local _ .vmem, ⟨3, _⟩ => ⟨S1x64, .i32⟩
  | .local _ .vmem, ⟨4, _⟩ => ⟨S1x1, .f32⟩
  | _, _ => ⟨S1x5000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

@[reducible] def k0_t1_loop : Scf.Loop 32 :=
  let c0_i32_35 : BitVec 32 := 0#32
  let c9_i32 : BitVec 32 := 9#32
  let v138 : BitVec 32 := Scalar.addi c0_i32_35 c9_i32
  let c1_i32 : BitVec 32 := 1#32
  ⟨c0_i32_35, v138, c1_i32⟩
abbrev stage0_0 : Fin 1 → Memref sig .tc .vmem S1x5000x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x5000 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x64x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x64 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S1x5000x4 : Shape := ⟨3, ![1, 5000, 4]⟩
abbrev S1x5000 : Shape := ⟨2, ![1, 5000]⟩
abbrev S1x64x4 : Shape := ⟨3, ![1, 64, 4]⟩
abbrev S1x64 : Shape := ⟨2, ![1, 64]⟩
abbrev S64x4 : Shape := ⟨2, ![64, 4]⟩
abbrev S5000x4 : Shape := ⟨2, ![5000, 4]⟩
abbrev S5000 : Shape := ⟨1, ![5000]⟩
abbrev S64 : Shape := ⟨1, ![64]⟩
abbrev S64x2 : Shape := ⟨2, ![64, 2]⟩
abbrev S64x1x2 : Shape := ⟨3, ![64, 1, 2]⟩
abbrev S5000x2 : Shape := ⟨2, ![5000, 2]⟩
abbrev S1x5000x2 : Shape := ⟨3, ![1, 5000, 2]⟩
abbrev S64x5000x2 : Shape := ⟨3, ![64, 5000, 2]⟩
abbrev S_ : Shape := ⟨0, ![]⟩
abbrev S64x5000x1 : Shape := ⟨3, ![64, 5000, 1]⟩
abbrev S64x5000 : Shape := ⟨2, ![64, 5000]⟩
abbrev S64x1 : Shape := ⟨2, ![64, 1]⟩
abbrev S5000x1 : Shape := ⟨2, ![5000, 1]⟩

abbrev nBuf : Space → Nat
  | .hbm => 163
  | .vmem => 0
  | .smem => 0
  | _ => 0

abbrev hbmTy0_0 (i : Nat) : BufTy := match i % 128 with
  | 0 => ⟨S1x5000x4, .f32⟩
  | 1 => ⟨S1x5000, .f32⟩
  | 2 => ⟨S1x5000, .i32⟩
  | 3 => ⟨S1x64x4, .f32⟩
  | 4 => ⟨S1x64, .i32⟩
  | 5 => ⟨S64x4, .f32⟩
  | 6 => ⟨S5000x4, .f32⟩
  | 7 => ⟨S5000, .f32⟩
  | 8 => ⟨S64, .i32⟩
  | 9 => ⟨S64x2, .f32⟩
  | 10 => ⟨S64x1x2, .f32⟩
  | 11 => ⟨S5000x2, .f32⟩
  | 12 => ⟨S1x5000x2, .f32⟩
  | 13 => ⟨S64x5000x2, .f32⟩
  | 14 => ⟨S64x5000x2, .f32⟩
  | 15 => ⟨S64x5000x2, .f32⟩
  | 16 => ⟨S64x2, .f32⟩
  | 17 => ⟨S64x1x2, .f32⟩
  | 18 => ⟨S5000x2, .f32⟩
  | 19 => ⟨S1x5000x2, .f32⟩
  | 20 => ⟨S64x5000x2, .f32⟩
  | 21 => ⟨S64x5000x2, .f32⟩
  | 22 => ⟨S64x5000x2, .f32⟩
  | 23 => ⟨S64x5000x2, .f32⟩
  | 24 => ⟨S_, .f32⟩
  | 25 => ⟨S_, .f32⟩
  | 26 => ⟨S64x5000x2, .f32⟩
  | 27 => ⟨S64x5000x2, .f32⟩
  | 28 => ⟨S64x5000x1, .f32⟩
  | 29 => ⟨S64x5000, .f32⟩
  | 30 => ⟨S64x5000x1, .f32⟩
  | 31 => ⟨S64x5000, .f32⟩
  | 32 => ⟨S64x5000, .f32⟩
  | 33 => ⟨S64x1, .f32⟩
  | 34 => ⟨S64, .f32⟩
  | 35 => ⟨S64x1, .f32⟩
  | 36 => ⟨S64, .f32⟩
  | 37 => ⟨S64, .f32⟩
  | 38 => ⟨S64x1, .f32⟩
  | 39 => ⟨S64, .f32⟩
  | 40 => ⟨S64x1, .f32⟩
  | 41 => ⟨S64, .f32⟩
  | 42 => ⟨S64, .f32⟩
  | 43 => ⟨S64, .f32⟩
  | 44 => ⟨S5000x1, .f32⟩
  | 45 => ⟨S5000, .f32⟩
  | 46 => ⟨S5000x1, .f32⟩
  | 47 => ⟨S5000, .f32⟩
  | 48 => ⟨S5000, .f32⟩
  | 49 => ⟨S5000x1, .f32⟩
  | 50 => ⟨S5000, .f32⟩
  | 51 => ⟨S5000x1, .f32⟩
  | 52 => ⟨S5000, .f32⟩
  | 53 => ⟨S5000, .f32⟩
  | 54 => ⟨S5000, .f32⟩
  | 55 => ⟨S64x1, .f32⟩
  | 56 => ⟨S1x5000, .f32⟩
  | 57 => ⟨S64x5000, .f32⟩
  | 58 => ⟨S64x5000, .f32⟩
  | 59 => ⟨S64x5000, .f32⟩
  | 60 => ⟨S64x5000, .f32⟩
  | 61 => ⟨S64x5000, .f32⟩
  | 62 => ⟨S_, .f32⟩
  | 63 => ⟨S5000, .f32⟩
  | 64 => ⟨S64x5000, .i32⟩
  | 65 => ⟨S_, .f32⟩
  | 66 => ⟨S_, .i32⟩
  | 67 => ⟨S5000, .f32⟩
  | 68 => ⟨S5000, .i32⟩
  | 69 => ⟨S64x5000, .i32⟩
  | 70 => ⟨S_, .f32⟩
  | 71 => ⟨S_, .i32⟩
  | 72 => ⟨S64, .f32⟩
  | 73 => ⟨S64, .i32⟩
  | 74 => ⟨S64, .i32⟩
  | 75 => ⟨S_, .i32⟩
  | 76 => ⟨S64, .i32⟩
  | 77 => ⟨S64, .i1⟩
  | 78 => ⟨S_, .i32⟩
  | 79 => ⟨S64, .i32⟩
  | 80 => ⟨S64, .i32⟩
  | 81 => ⟨S64, .i32⟩
  | 82 => ⟨S64x1, .i32⟩
  | 83 => ⟨S5000, .i32⟩
  | 84 => ⟨S_, .i32⟩
  | 85 => ⟨S64, .i32⟩
  | 86 => ⟨S64, .i1⟩
  | 87 => ⟨S_, .i32⟩
  | 88 => ⟨S64, .i32⟩
  | 89 => ⟨S64, .i32⟩
  | 90 => ⟨S64, .i32⟩
  | 91 => ⟨S64x1, .i32⟩
  | 92 => ⟨S_, .f32⟩
  | 93 => ⟨S64, .f32⟩
  | 94 => ⟨S5000, .f32⟩
  | 95 => ⟨S_, .i32⟩
  | 96 => ⟨S5000, .i32⟩
  | 97 => ⟨S5000, .i1⟩
  | 98 => ⟨S_, .i32⟩
  | 99 => ⟨S5000, .i32⟩
  | 100 => ⟨S5000, .i32⟩
  | 101 => ⟨S5000, .i32⟩
  | 102 => ⟨S5000x1, .i32⟩
  | 103 => ⟨S5000, .i32⟩
  | 104 => ⟨S_, .f32⟩
  | 105 => ⟨S5000, .f32⟩
  | 106 => ⟨S5000, .i1⟩
  | 107 => ⟨S_, .i32⟩
  | 108 => ⟨S_, .i32⟩
  | 109 => ⟨S5000, .i32⟩
  | 110 => ⟨S5000, .i32⟩
  | 111 => ⟨S_, .i32⟩
  | 112 => ⟨S5000, .i32⟩
  | 113 => ⟨S5000, .i1⟩
  | 114 => ⟨S_, .i32⟩
  | 115 => ⟨S5000, .i32⟩
  | 116 => ⟨S5000, .i1⟩
  | 117 => ⟨S_, .i32⟩
  | 118 => ⟨S5000, .i32⟩
  | 119 => ⟨S5000, .i32⟩
  | 120 => ⟨S5000, .i32⟩
  | 121 => ⟨S5000x1, .i32⟩
  | 122 => ⟨S5000x4, .f32⟩
  | 123 => ⟨S5000, .f32⟩
  | 124 => ⟨S_, .f32⟩
  | 125 => ⟨S_, .f32⟩
  | 126 => ⟨S5000x4, .f32⟩
  | 127 => ⟨S5000x4, .f32⟩
  | _ => ⟨S1x5000x4, .f32⟩

abbrev hbmTy0_1 (i : Nat) : BufTy := match i % 128 with
  | 0 => ⟨S5000x1, .f32⟩
  | 1 => ⟨S5000x4, .f32⟩
  | 2 => ⟨S5000x4, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S5000, .f32⟩
  | 12 => ⟨S5000, .f32⟩
  | 13 => ⟨S5000, .f32⟩
  | 14 => ⟨S_, .f32⟩
  | 15 => ⟨S_, .f32⟩
  | 16 => ⟨S_, .f32⟩
  | 17 => ⟨S_, .f32⟩
  | 18 => ⟨S5000, .f32⟩
  | 19 => ⟨S5000, .f32⟩
  | 20 => ⟨S5000, .f32⟩
  | 21 => ⟨S5000, .f32⟩
  | 22 => ⟨S5000, .i32⟩
  | 23 => ⟨S5000, .f32⟩
  | 24 => ⟨S5000, .f32⟩
  | 25 => ⟨S5000, .i1⟩
  | 26 => ⟨S5000, .f32⟩
  | 27 => ⟨S5000, .f32⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | _ => ⟨S1x5000x4, .f32⟩

abbrev hbmTy (i : Nat) : BufTy := match i / 128 with
  | 0 => hbmTy0_0 i
  | 1 => hbmTy0_1 i
  | _ => ⟨S1x5000x4, .f32⟩

abbrev bufTy : (tb : Table) → Fin (tcTables nBuf tb) → BufTy
  | .hbm, ⟨i, _⟩ => hbmTy i
  | _, _ => ⟨S1x5000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst : Ref sig .tc := ⟨.hbm, 24, rfl⟩
abbrev main_call0_v0 : Ref sig .tc := ⟨.hbm, 25, rfl⟩
abbrev main_call0_v1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_cst_0 : Ref sig .tc := ⟨.hbm, 62, rfl⟩
abbrev main_v54 : Ref sig .tc := ⟨.hbm, 63, rfl⟩
abbrev main_call1_v0 : Ref sig .tc := ⟨.hbm, 64, rfl⟩
abbrev main_call1_cst : Ref sig .tc := ⟨.hbm, 65, rfl⟩
abbrev main_call1_c : Ref sig .tc := ⟨.hbm, 66, rfl⟩
abbrev main_call1_v1_0 : Ref sig .tc := ⟨.hbm, 67, rfl⟩
abbrev main_v55 : Ref sig .tc := ⟨.hbm, 68, rfl⟩
abbrev main_call2_v0 : Ref sig .tc := ⟨.hbm, 69, rfl⟩
abbrev main_call2_cst : Ref sig .tc := ⟨.hbm, 70, rfl⟩
abbrev main_call2_c : Ref sig .tc := ⟨.hbm, 71, rfl⟩
abbrev main_call2_v1_0 : Ref sig .tc := ⟨.hbm, 72, rfl⟩
abbrev main_v56 : Ref sig .tc := ⟨.hbm, 73, rfl⟩
abbrev main_v57 : Ref sig .tc := ⟨.hbm, 74, rfl⟩
abbrev main_c : Ref sig .tc := ⟨.hbm, 75, rfl⟩
abbrev main_v58 : Ref sig .tc := ⟨.hbm, 76, rfl⟩
abbrev main_v59 : Ref sig .tc := ⟨.hbm, 77, rfl⟩
abbrev main_c_1 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_c_2 : Ref sig .tc := ⟨.hbm, 84, rfl⟩
abbrev main_v65 : Ref sig .tc := ⟨.hbm, 85, rfl⟩
abbrev main_v66 : Ref sig .tc := ⟨.hbm, 86, rfl⟩
abbrev main_c_3 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_cst_4 : Ref sig .tc := ⟨.hbm, 92, rfl⟩
abbrev main_v71 : Ref sig .tc := ⟨.hbm, 93, rfl⟩
abbrev main_v72 : Ref sig .tc := ⟨.hbm, 94, rfl⟩
abbrev main_c_5 : Ref sig .tc := ⟨.hbm, 95, rfl⟩
abbrev main_v73 : Ref sig .tc := ⟨.hbm, 96, rfl⟩
abbrev main_v74 : Ref sig .tc := ⟨.hbm, 97, rfl⟩
abbrev main_c_6 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_cst_7 : Ref sig .tc := ⟨.hbm, 104, rfl⟩
abbrev main_v80 : Ref sig .tc := ⟨.hbm, 105, rfl⟩
abbrev main_v81 : Ref sig .tc := ⟨.hbm, 106, rfl⟩
abbrev main_c_8 : Ref sig .tc := ⟨.hbm, 107, rfl⟩
abbrev main_call3_v0 : Ref sig .tc := ⟨.hbm, 108, rfl⟩
abbrev main_call3_v1 : Ref sig .tc := ⟨.hbm, 109, rfl⟩
abbrev main_v82 : Ref sig .tc := ⟨.hbm, 110, rfl⟩
abbrev main_c_9 : Ref sig .tc := ⟨.hbm, 111, rfl⟩
abbrev main_v83 : Ref sig .tc := ⟨.hbm, 112, rfl⟩
abbrev main_v84 : Ref sig .tc := ⟨.hbm, 113, rfl⟩
abbrev main_c_10 : Ref sig .tc := ⟨.hbm, 114, rfl⟩
abbrev main_v85 : Ref sig .tc := ⟨.hbm, 115, rfl⟩
abbrev main_v86 : Ref sig .tc := ⟨.hbm, 116, rfl⟩
abbrev main_c_11 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_cst_12 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_cst_13 : Ref sig .tc := ⟨.hbm, 131, rfl⟩
abbrev main_v99 : Ref sig .tc := ⟨.hbm, 132, rfl⟩
abbrev main_cst_14 : Ref sig .tc := ⟨.hbm, 133, rfl⟩
abbrev main_v100 : Ref sig .tc := ⟨.hbm, 134, rfl⟩
abbrev main_v101 : Ref sig .tc := ⟨.hbm, 135, rfl⟩
abbrev main_cst_15 : Ref sig .tc := ⟨.hbm, 136, rfl⟩
abbrev main_v102 : Ref sig .tc := ⟨.hbm, 137, rfl⟩
abbrev main_cst_16 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_cst_17 : Ref sig .tc := ⟨.hbm, 142, rfl⟩
abbrev main_v106 : Ref sig .tc := ⟨.hbm, 143, rfl⟩
abbrev main_cst_18 : Ref sig .tc := ⟨.hbm, 144, rfl⟩
abbrev main_call4_v0 : Ref sig .tc := ⟨.hbm, 145, rfl⟩
abbrev main_call4_v1 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_cst_19 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_cst_20 : Ref sig .tc := ⟨.hbm, 160, rfl⟩
abbrev main_v119 : Ref sig .tc := ⟨.hbm, 161, rfl⟩
abbrev main_v120 : Ref sig .tc := ⟨.hbm, 162, rfl⟩

abbrev nD : Nat := 1
abbrev τ : Topo := Topo.v7x

variable {F : FTy → Type} [FloatOps F]
-- ==== Proof.KernelIdealRun.lean ====
/- What the kernel's single call computes, and its launch: the body loads the four argument blocks, computes
   the matching, the losses and the threshold search in registers, and stores the one-element result.

   The search's counted loop touches no memory: a round maps the carried pair (lower end, width) to the next
   one, `narrow`, so its invariant is that the pair before round `k` is `narrowed k`, the `k`-fold iterate. -/
module

public import proofs.«01_k».proof.Proof.Gen.KernelIdeal.Frame
public import proofs.«01_k».proof.Proof.Gen.KernelIdeal.Loops
public import Idealize.ShloMosaic.Lib.Claim

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The threshold search -/

/-- One round of the search: from the lower end and the width to the next pair. `neg` is the array of negative
    confidences, `k` the number wanted. -/
def narrow (neg : FVec F S1x5000 .f32) (k : F .f32) (p : F .f32 × F .f32) : F .f32 × F .f32 :=
  (k0_pay1 neg k p.1 (k0_pay3 p.2)
      (k0_pay6 neg k p.1 (k0_pay3 p.2) (k0_pay4 neg k p.1 p.2) (Scalar.cmpf .oge (k0_pay5 neg p.1 p.2) k))
      (Scalar.cmpf .oge (k0_pay7 neg p.1 (k0_pay3 p.2)) k),
    k0_pay3 p.2)

/-- The pair before round `n`. -/
def narrowed (neg : FVec F S1x5000 .f32) (k : F .f32) (init : F .f32 × F .f32) : ℕ → F .f32 × F .f32
  | 0 => init
  | n + 1 => narrow neg k (narrowed neg k init n)

/-- The loop's invariant: before round `n` the carried pair is `narrowed n`. -/
@[sl_loop, instance_reducible] def searchInv (c : Dev nD) (E : Set ℕ) (arg0 : Memref sig .tc .vmem S1x5000x4 .f32) (harg0 : arg0.IsWhole) (arg1 : Memref sig .tc .vmem S1x5000 .f32) (harg1 : arg1.IsWhole) (arg2 : Memref sig .tc .vmem S1x64x4 .f32) (harg2 : arg2.IsWhole) (arg3 : Memref sig .tc .vmem S1x64 .i32) (harg3 : arg3.IsWhole) (arg4 : Memref sig .tc .vmem S1x1 .f32) (harg4 : arg4.IsWhole)
    (neg : FVec F S1x5000 .f32) (k : F .f32) (z : BitVec 32) (init : F .f32 × F .f32) :
    LoopInvTy_k0_t1 (F := F) Unit ℕ (UR sig nD τ) ℕ Variants.none c none E arg0 harg0 arg1 harg1 arg2 harg2 arg3 harg3 arg4 harg4 neg k z init where
  inv n acc := iprop(⌜acc = narrowed neg k init n⌝)
  step n acc := by
    unfold k0_t1_body
    simp only [k0_part1_eq_skeleton, k0_part2_eq_skeleton]
    iintro %h
    sl_exec
    sl_step
    ipureintro
    rw [h]; rfl

/-! ## What the body leaves in the result's buffer -/
abbrev rect0 : Rect S1x5000x4 := Rect.unit (s := S1x5000x4) ![0, 0, 0] S1x5000x4.size inb_S1x5000x4_S1x5000x4_0_0_0
abbrev rect1 : Rect S1x5000 := Rect.unit (s := S1x5000) ![0, 0] S1x5000.size inb_S1x5000_S1x5000_0_0
abbrev rect2 : Rect S1x64x4 := Rect.unit (s := S1x64x4) ![0, 0, 0] S1x64x4.size inb_S1x64x4_S1x64x4_0_0_0
abbrev rect3 : Rect S1x64 := Rect.unit (s := S1x64) ![0, 0] S1x64.size inb_S1x64_S1x64_0_0
abbrev rect4 : Rect S1x1 := Rect.unit (s := S1x1) ![0, 0] S1x1.size inb_S1x1_S1x1_0_0

/-- The overlaps of the objects with the detections. -/
def overlaps (x0 : Vec F S1x5000x4 .f32) (x2 : Vec F S1x64x4 .f32) : FVec F S64x5000 .f32 := k0_pay11 x0 x2
/-- The detections' indices along the row. -/
def lanes : IVec S1x5000 32 := iota .tc S1x5000 32 [1] iota_S1x5000_d1_w32
/-- The objects' indices down the columns. -/
def objectIds : IVec S64x5000 32 := iota .tc S64x5000 32 [0] iota_S64x5000_d0_w32
/-- The matched object's corners and label, per detection. -/
def picked (x0 : Vec F S1x5000x4 .f32) (x2 : Vec F S1x64x4 .f32) (x3 : Vec F S1x64 .i32) : FVec F S5x5000 .f32 :=
  k0_pay15 (k0_pay8 x2) (k0_pay9 x3) (overlaps x0 x2) lanes objectIds
/-- Which detections are positive. -/
def positive (x0 : Vec F S1x5000x4 .f32) (x2 : Vec F S1x64x4 .f32) (x3 : Vec F S1x64 .i32) : IVec S1x5000 1 :=
  k0_pay16 (k0_pay8 x2) (k0_pay9 x3) (overlaps x0 x2) lanes objectIds
/-- The search's last pair, from the confidences `x1` and the positive detections `pos`. -/
def found (x1 : Vec F S1x5000 .f32) (pos : IVec S1x5000 1) : F .f32 × F .f32 :=
  narrowed (k0_pay22 x1 pos) (k0_pay23 (F := F) pos) (Scalar.ofBits .f32 0x00000000#32, Scalar.ofBits .f32 0x3F800000#32) 9
/-- The loss, as the one-element block the body stores. -/
def loss (x0 : Vec F S1x5000x4 .f32) (x1 : Vec F S1x5000 .f32) (x2 : Vec F S1x64x4 .f32) (x3 : Vec F S1x64 .i32) : FVec F S1x1 .f32 :=
  k0_pay2 (k0_pay18 (F := F) (positive x0 x2 x3)) (k0_pay19 (k0_pay10 x0) (picked x0 x2 x3) (positive x0 x2 x3))
    (k0_pay21 x1 (positive x0 x2 x3)) (k0_pay22 x1 (positive x0 x2 x3)) (k0_pay23 (F := F) (positive x0 x2 x3))
    (found x1 (positive x0 x2 x3)).1 (found x1 (positive x0 x2 x3)).2

/-- The result's staging buffer after the body, from the input windows' blocks: its one store. -/
def left (x0 : Vec F S1x5000x4 .f32) (x1 : Vec F S1x5000 .f32) (x2 : Vec F S1x64x4 .f32) (x3 : Vec F S1x64 .i32) : Vec F S1x1 .f32 :=
  View.canon [⟨rect4, loss (View.ld x0 rect0) (View.ld x1 rect1) (View.ld x2 rect2) (View.ld x3 rect3)⟩]

/-- The store covers the buffer. -/
theorem left_covers (p : Vec F S1x1 .f32) (y : S1x1.Idx) :
    ∃ pc ∈ ([⟨rect4, p⟩] : List (View.Piece (Elt F) S1x1 .f32)), y ∈ pc.1.set :=
  View.cover_of_tiled [⟨rect4, p⟩] S1x1.size (by rfl) y

/-! ## The body's triple -/

set_option maxHeartbeats 1000000 in
/-- The body, from the four blocks `x0 … x3`, leaves them as they were and the result's buffer at `left`. -/
theorem sound_kernel (c : Dev nD) (E : Set ℕ) (arg0 : Memref sig .tc .vmem S1x5000x4 .f32) (harg0 : arg0.IsWhole) (arg1 : Memref sig .tc .vmem S1x5000 .f32) (harg1 : arg1.IsWhole) (arg2 : Memref sig .tc .vmem S1x64x4 .f32) (harg2 : arg2.IsWhole) (arg3 : Memref sig .tc .vmem S1x64 .i32) (harg3 : arg3.IsWhole) (arg4 : Memref sig .tc .vmem S1x1 .f32) (harg4 : arg4.IsWhole)
    (x0 : Vec F S1x5000x4 .f32) (x1 : Vec F S1x5000 .f32) (x2 : Vec F S1x64x4 .f32) (x3 : Vec F S1x64 .i32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (left x0 x1 x2 x3)) -∗ K ⟨⟩))
      ⊢ wp frame (wpE (defs₀ (F := F)) Variants.none c none) E (cc0__attack_loss_body arg0 harg0 arg1 harg1 arg2 harg2 arg3 harg3 arg4 harg4) K := by
  simp only [cc0__attack_loss_body_eq_skeleton]; unfold cc0__attack_loss_body_skel
  simp only [k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  refine (View.read_writes_eq_canon _ _ _ (left_covers _)).trans ?_
  rfl

/-! ## The pipeline's proof data -/

variable (m : (ℓ : Loc nD τ sig) → Buf (Elt F) ℓ) (ρ : Dev nD → PrngReg)

/-- What every staging buffer holds after the body: the inputs their blocks, the result `left` of them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => left (iblk m c 0 t) (iblk m c 1 t) (iblk m c 2 t) (iblk m c 3 t)
  Φ _ := Pipeline.ΦA spec0 c
  q _ := fullShare
  owed _ := 0

/-- The arrays are as the call finds them. -/
theorem A_eq (c : Dev nD) (w : Fin cfg0.W) : (dats m 0 c).A w = V m c (Pipeline.arrRef spec0 w) := by
  dsimp only [dats]

/-- The same, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = left (iblk m c 0 t) (iblk m c 1 t) (iblk m c 2 t) (iblk m c 3 t) := by dsimp only [dats]

/-- Each input's staging buffer holds its block when the body starts. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body's triple between the two. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The table of bodies names this one. -/
theorem defs₀_row (t : Fin cfg0.N) :
    defs₀ (F := F) .tc cfg0.body (cfg0.bodyArgs t (cfg0.slots t)) = bodyAt0 t := by
  unfold defs₀; rw [Defs.onTc_tc]

/-- The obligation the launch asks of the body. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- The launch: every execution ends, the arrays as the proof data say, the counters at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The same without the counters. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Run

end
-- ==== Proof.KernelValue.lean ====
/- What the kernel's run leaves in its result: the loss of the arguments. -/
module

public import proofs.«01_k».proof.Proof.KernelIdealRun
public import Idealize.ShloMosaic.Lib.Pipeline.ValueKit

@[expose] public section

set_option maxRecDepth 16384

noncomputable section

namespace Cert.KernelIdeal.Run

open Cert.KernelIdeal Cert.KernelIdeal.Gen Idealize.ShloMosaic Idealize.ShloMosaic.TcCoe
open Idealize.SL Idealize.SL.RA Idealize.SL.Sem
open Idealize.ShloMosaic.Pipeline (Dat Cfg Window)

variable {F : FTy → Type} [FloatOps F]
variable (m : (ℓ : Loc nD τ sig) → Buf (Elt F) ℓ) (ρ : Dev nD → PrngReg)

/-- The loss of the arguments, as the one-element array. -/
def lossAt (c : Dev nD) : FVec F S1x1 .f32 :=
  loss (m ((c.tc : Thread nD τ).loc main_arg0)) (m ((c.tc : Thread nD τ).loc main_arg1))
    (m ((c.tc : Thread nD τ).loc main_arg3)) (m ((c.tc : Thread nD τ).loc main_arg4))

theorem index0 (t : Fin cfg0.N) : win0_0.index t = ![0, 0, 0] := (by decide +kernel : ∀ t : Fin grid0.N, win0_0.index t = ![0, 0, 0]) t
theorem index1 (t : Fin cfg0.N) : win0_1.index t = ![0, 0] := (by decide +kernel : ∀ t : Fin grid0.N, win0_1.index t = ![0, 0]) t
theorem index2 (t : Fin cfg0.N) : win0_2.index t = ![0, 0, 0] := (by decide +kernel : ∀ t : Fin grid0.N, win0_2.index t = ![0, 0, 0]) t
theorem index3 (t : Fin cfg0.N) : win0_3.index t = ![0, 0] := (by decide +kernel : ∀ t : Fin grid0.N, win0_3.index t = ![0, 0]) t
theorem index4 (t : Fin cfg0.N) : win0_4.index t = ![0, 0] := (by decide +kernel : ∀ t : Fin grid0.N, win0_4.index t = ![0, 0]) t

/-- Each input block is the whole argument. -/
theorem iblk0 (c : Dev nD) (t : Fin cfg0.N) : iblk m c 0 t = m ((c.tc : Thread nD τ).loc main_arg0) := by
  funext y
  have e : (win0_0.blk t).view.emb y = y := by blk_ext [index0 t]
  blk_simp [iblk]
  exact congrArg (m ((c.tc : Thread nD τ).loc main_arg0)) e
theorem iblk1 (c : Dev nD) (t : Fin cfg0.N) : iblk m c 1 t = m ((c.tc : Thread nD τ).loc main_arg1) := by
  funext y
  have e : (win0_1.blk t).view.emb y = y := by blk_ext [index1 t]
  blk_simp [iblk]
  exact congrArg (m ((c.tc : Thread nD τ).loc main_arg1)) e
theorem iblk2 (c : Dev nD) (t : Fin cfg0.N) : iblk m c 2 t = m ((c.tc : Thread nD τ).loc main_arg3) := by
  funext y
  have e : (win0_2.blk t).view.emb y = y := by blk_ext [index2 t]
  blk_simp [iblk]
  exact congrArg (m ((c.tc : Thread nD τ).loc main_arg3)) e
theorem iblk3 (c : Dev nD) (t : Fin cfg0.N) : iblk m c 3 t = m ((c.tc : Thread nD τ).loc main_arg4) := by
  funext y
  have e : (win0_3.blk t).view.emb y = y := by blk_ext [index3 t]
  blk_simp [iblk]
  exact congrArg (m ((c.tc : Thread nD τ).loc main_arg4)) e

/-- The store's contents are the loss. -/
theorem left_eq (x0 : Vec F S1x5000x4 .f32) (x1 : Vec F S1x5000 .f32) (x2 : Vec F S1x64x4 .f32) (x3 : Vec F S1x64 .i32) :
    left x0 x1 x2 x3 = loss x0 x1 x2 x3 := by
  unfold left
  frame_out

theorem out_eq (c : Dev nD) : (dats m 0 c).arrAt 4 cfg0.N = lossAt m c := by
  refine (dats m 0 c).arrAt_eq_of_covers 4 _ (by decide +kernel) fun t hf y => ?_
  have e : (win0_4.blk t).view.emb y = y := by blk_ext [index4 t]
  blk_simp
  rw [after0_4, e, iblk0, iblk1, iblk2, iblk3, left_eq]
  rfl

/-- The result's buffer after the host line: the array's one element. -/
theorem result_eq (c : Dev nD) :
    Pipeline.afterTail₀ cfgs (dats m) 0 (V0 m) [hostOps1] c main_v1 = shapeCast S_ (lossAt m c) shapeCasts_S1x1_S_ := by
  have harr : Pipeline.withArrays (cfgs 0).spec c (V0 m c) (fun w => (dats m 0 c).arrAt w (cfgs 0).N) (Proc.devRef .tc main_v0) = lossAt m c :=
    (Pipeline.withArrays_arr (cfgs 0).spec (by decide) c (V0 m c) _ 4).trans (out_eq m c)
  unfold Pipeline.afterTail₀
  simp only [hostOps1, List.flatten_cons, List.flatten_nil, List.append_nil, List.cons_append, List.nil_append, StableHlo.after_cons, StableHlo.after_nil]
  rw [StableHlo.reshape_result]
  rw [harr]
  rfl

/-- The run: the result ends at the loss of the arguments, and the arguments as they were. -/
theorem value : θ_run defs (onTc (τ := τ) (main (F := F))) ⟨m, fun _ => 0, ρ⟩ (fun r => ∀ c : Dev nD,
      r.2.mem ((c.tc : Thread nD τ).loc main_v1) = shapeCast S_ (lossAt m c) shapeCasts_S1x1_S_
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  have h₁ : θ_run defs (onTc (τ := τ) (main (F := F))) ⟨m, fun _ => 0, ρ⟩ (fun r => ∀ c : Dev nD,
      r.2.mem ((c.tc : Thread nD τ).loc main_v1) = shapeCast S_ (lossAt m c) shapeCasts_S1x1_S_) :=
    (θ_run defs _ _).mono (fun _ h c =>
      ((h c).2 main_v1 (Pipeline.mem_restRefs_of main_v1 (by decide) (by decide))).trans (result_eq m c)) (run_main m ρ)
  exact (θ_run defs _ _).mono (fun _ h c => ⟨h.2 c, h.1 c⟩) (θ_run_and (unchanged m ρ) h₁)

end Cert.KernelIdeal.Run

end
-- ==== Proof.ReferenceStages.lean ====
/- The reference's mathematics as named stages: each a function of the arrays it reads. -/
module

public import proofs.«01_k».proof.Proof.Gen.ReferenceIdeal
public import Idealize.ShloMosaic.Lib.StableHlo.Run

@[expose] public section

set_option maxRecDepth 8192

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-! ## The stages -/

/-- Clipped side lengths of the intersections. -/
def sidesOf (b : Vec F S64x4 .f32) (d : Vec F S5000x4 .f32) : Vec F S64x5000x2 .f32 :=
  maximumf ((broadcastInDim S64x5000x2 ![] bcast_S_S64x5000x2) (id (constant S_ .f32 0x00000000#32))) (subf (minimumf (broadcastInDim S64x5000x2 ![0, 1, 2] bcast_S64x1x2_S64x5000x2_0_1_2 (broadcastInDim S64x1x2 ![0, 2] bcast_S64x2_S64x1x2_0_2 (extractStridedSlice S64x2 ![0, 2] b slices_S64x4_S64x2_0_2))) (broadcastInDim S64x5000x2 ![0, 1, 2] bcast_S1x5000x2_S64x5000x2_0_1_2 (broadcastInDim S1x5000x2 ![1, 2] bcast_S5000x2_S1x5000x2_1_2 (extractStridedSlice S5000x2 ![0, 2] d slices_S5000x4_S5000x2_0_2)))) (maximumf (broadcastInDim S64x5000x2 ![0, 1, 2] bcast_S64x1x2_S64x5000x2_0_1_2 (broadcastInDim S64x1x2 ![0, 2] bcast_S64x2_S64x1x2_0_2 (extractStridedSlice S64x2 ![0, 0] b slices_S64x4_S64x2_0_0))) (broadcastInDim S64x5000x2 ![0, 1, 2] bcast_S1x5000x2_S64x5000x2_0_1_2 (broadcastInDim S1x5000x2 ![1, 2] bcast_S5000x2_S1x5000x2_1_2 (extractStridedSlice S5000x2 ![0, 0] d slices_S5000x4_S5000x2_0_0)))))

/-- Areas of the intersections. -/
def interOf (s : Vec F S64x5000x2 .f32) : Vec F S64x5000 .f32 :=
  mulf (shapeCast _ (extractStridedSlice S64x5000x1 ![0, 0, 0] s slices_S64x5000x2_S64x5000x1_0_0_0) shapeCasts_S64x5000x1_S64x5000) (shapeCast _ (extractStridedSlice S64x5000x1 ![0, 0, 1] s slices_S64x5000x2_S64x5000x1_0_0_1) shapeCasts_S64x5000x1_S64x5000)

/-- Intersection over union, from the boxes and the intersections. -/
def overlapOf (b : Vec F S64x4 .f32) (d : Vec F S5000x4 .f32) (i : Vec F S64x5000 .f32) : Vec F S64x5000 .f32 :=
  Host.divf i (subf (addf (broadcastInDim S64x5000 ![0, 1] bcast_S64x1_S64x5000_0_1 (broadcastInDim S64x1 ![0] bcast_S64_S64x1_0 (mulf (subf (shapeCast _ (extractStridedSlice S64x1 ![0, 2] b slices_S64x4_S64x1_0_2) shapeCasts_S64x1_S64) (shapeCast _ (extractStridedSlice S64x1 ![0, 0] b slices_S64x4_S64x1_0_0) shapeCasts_S64x1_S64)) (subf (shapeCast _ (extractStridedSlice S64x1 ![0, 3] b slices_S64x4_S64x1_0_3) shapeCasts_S64x1_S64) (shapeCast _ (extractStridedSlice S64x1 ![0, 1] b slices_S64x4_S64x1_0_1) shapeCasts_S64x1_S64))))) (broadcastInDim S64x5000 ![0, 1] bcast_S1x5000_S64x5000_0_1 (broadcastInDim S1x5000 ![1] bcast_S5000_S1x5000_1 (mulf (subf (shapeCast _ (extractStridedSlice S5000x1 ![0, 2] d slices_S5000x4_S5000x1_0_2) shapeCasts_S5000x1_S5000) (shapeCast _ (extractStridedSlice S5000x1 ![0, 0] d slices_S5000x4_S5000x1_0_0) shapeCasts_S5000x1_S5000)) (subf (shapeCast _ (extractStridedSlice S5000x1 ![0, 3] d slices_S5000x4_S5000x1_0_3) shapeCasts_S5000x1_S5000) (shapeCast _ (extractStridedSlice S5000x1 ![0, 1] d slices_S5000x4_S5000x1_0_1) shapeCasts_S5000x1_S5000)))))) i)

/-- Each detection's largest overlap. -/
def bestOverlapOf (o : Vec F S64x5000 .f32) : Vec F S5000 .f32 :=
  Host.reduce FloatOps.maximumf o (constant S_ .f32 0xFF800000#32) reducesTo_S64x5000_S5000_d0 h_S_

/-- Each detection's best object. -/
def bestObjOf (o : Vec F S64x5000 .f32) : Vec F S5000 .i32 :=
  (fun x y u v j => (Host.argReduce reducer_argmax_f32_i32 x y u v reducesTo_S64x5000_S5000_d0 h_S_ j).2) o (iotaInDim S64x5000 32 0) (constant S_ .f32 0xFF800000#32) (constantI S_ 32 0#32)

/-- Each object's best detection. -/
def bestDetOf (o : Vec F S64x5000 .f32) : Vec F S64 .i32 :=
  (fun x y u v j => (Host.argReduce reducer_argmax_f32_i32 x y u v reducesTo_S64x5000_S64_d1 h_S_ j).2) o (iotaInDim S64x5000 32 1) (constant S_ .f32 0xFF800000#32) (constantI S_ 32 0#32)

/-- The objects' indices. -/
def objIds : Vec F S64 .i32 := iotaInDim S64 32 0

/-- The objects' best detections as scatter indices. -/
def detIndexOf (t : Vec F S64 .i32) : Vec F S64x1 .i32 :=
  broadcastInDim S64x1 ![0] bcast_S64_S64x1_0 (select (cmpi .slt t (broadcastInDim S64 ![] bcast_S_S64 (constantI S_ 32 0#32))) (addi t (broadcastInDim S64 ![] bcast_S_S64 (constantI S_ 32 5000#32))) t)

/-- The matched object per detection: the best one, replaced where the detection is an object's best. -/
def objOf (a : Vec F S5000 .i32) (t : Vec F S64 .i32) : Vec F S5000 .i32 :=
  Host.scatter scatter_S5000_S64x1_S64_n_0_0_1 (fun _ b => b) a (detIndexOf (F := F) t) (objIds (F := F))

/-- The overlap per detection, one where the detection is an object's best. -/
def ovdOf (a : Vec F S5000 .f32) (t : Vec F S64 .i32) : Vec F S5000 .f32 :=
  Host.scatter scatter_S5000_S64x1_S64_n_0_0_1 (fun _ b => b) a (detIndexOf (F := F) t) (broadcastInDim S64 ![] bcast_S_S64 (constant S_ .f32 0x3F800000#32))

/-- The matched objects as gather indices. -/
def objIndexOf (j : Vec F S5000 .i32) : Vec F S5000x1 .i32 :=
  broadcastInDim S5000x1 ![0] bcast_S5000_S5000x1_0 (select (cmpi .slt j (broadcastInDim S5000 ![] bcast_S_S5000 (constantI S_ 32 0#32))) (addi j (broadcastInDim S5000 ![] bcast_S_S5000 (constantI S_ 32 64#32))) j)

/-- The matched labels, zero where the overlap is under one half. -/
def matchedLabelOf (l : Vec F S64 .i32) (j : Vec F S5000 .i32) (w : Vec F S5000 .f32) : Vec F S5000 .i32 :=
  select (cmpf .olt w (broadcastInDim S5000 ![] bcast_S_S5000 (constant S_ .f32 0x3F000000#32))) ((broadcastInDim S5000 ![] bcast_S_S5000) (id (constantI S_ 32 0#32))) (Host.gather gather_S64_S5000x1_S5000_n_0_n_n_0_1_1 l (objIndexOf (F := F) j))

/-- Which detections are positive: those whose matched label is not zero. -/
def posOf (l : Vec F S5000 .i32) : Vec F S5000 .i1 :=
  cmpi .ne l (broadcastInDim S5000 ![] bcast_S_S5000 (constantI S_ 32 0#32))

/-- The matched corners. -/
def trueOf (b : Vec F S64x4 .f32) (j : Vec F S5000 .i32) : Vec F S5000x4 .f32 :=
  Host.gather gather_S64x4_S5000x1_S5000x4_1_0_n_n_0_1_14 b (objIndexOf (F := F) j)

/-- The positive detections as zeros and ones. -/
def posfOf (p : Vec F S5000 .i1) : Vec F S5000 .f32 :=
  uitofp .f32 p

/-- The number of positive detections. -/
def nPosOf (f : Vec F S5000 .f32) : Vec F S_ .f32 :=
  Host.reduceAdd f (constant S_ .f32 0x00000000#32) reducesTo_S5000_S_d0 h_S_

/-- The localisation loss. -/
def locLossOf (d : Vec F S5000x4 .f32) (g : Vec F S5000x4 .f32) (f : Vec F S5000 .f32) (n : Vec F S_ .f32) : Vec F S_ .f32 :=
  Host.divf (Host.reduceAdd (mulf (Host.absf (subf d g)) (broadcastInDim S5000x4 ![0, 1] bcast_S5000x1_S5000x4_0_1 (broadcastInDim S5000x1 ![0] bcast_S5000_S5000x1_0 f))) (constant S_ .f32 0x00000000#32) reducesTo_S5000x4_S_d0_1 h_S_) (mulf n (constant S_ .f32 0x40800000#32))

/-- The confidence losses. -/
def confOf (s : Vec F S5000 .f32) : Vec F S5000 .f32 :=
  subf (broadcastInDim S5000 ![] bcast_S_S5000 (constant S_ .f32 0x3F800000#32)) s

/-- The positive detections' confidence loss. -/
def confPosOf (c : Vec F S5000 .f32) (f : Vec F S5000 .f32) : Vec F S_ .f32 :=
  Host.reduceAdd (mulf c f) (constant S_ .f32 0x00000000#32) reducesTo_S5000_S_d0 h_S_

/-- The negative detections' confidence losses, zero at the positive ones. -/
def negOf (p : Vec F S5000 .i1) (c : Vec F S5000 .f32) : Vec F S5000 .f32 :=
  select p ((broadcastInDim S5000 ![] bcast_S_S5000) (id (constant S_ .f32 0x00000000#32))) c

/-- The sum of the `3 n` largest of them. -/
def hardOf (g : Vec F S5000 .f32) (n : Vec F S_ .f32) : Vec F S_ .f32 :=
  Host.reduceAdd (mulf (Host.reverse [0] (Host.sort S5000 0 comparator_f32_d0 g)) (uitofp .f32 (cmpf .olt (sitofp .f32 (iotaInDim S5000 32 0)) (broadcastInDim S5000 ![] bcast_S_S5000 (mulf (constant S_ .f32 0x40400000#32) n))))) (constant S_ .f32 0x00000000#32) reducesTo_S5000_S_d0 h_S_

/-- The loss. -/
def lossOf (h : Vec F S_ .f32) (c : Vec F S_ .f32) (n : Vec F S_ .f32) (l : Vec F S_ .f32) : Vec F S_ .f32 :=
  addf (Host.divf (addf h c) n) (mulf (constant S_ .f32 0x3F800000#32) l)

/-! ## The stages from the arguments -/

/-- The objects' corners. -/
def boxes (x3 : Vec F S1x64x4 .f32) : Vec F S64x4 .f32 := shapeCast _ x3 shapeCasts_S1x64x4_S64x4
/-- The detections' corners. -/
def dets (x0 : Vec F S1x5000x4 .f32) : Vec F S5000x4 .f32 := shapeCast _ x0 shapeCasts_S1x5000x4_S5000x4
/-- The detections' scores. -/
def scores (x1 : Vec F S1x5000 .f32) : Vec F S5000 .f32 := shapeCast _ x1 shapeCasts_S1x5000_S5000
/-- The objects' labels. -/
def labels (x4 : Vec F S1x64 .i32) : Vec F S64 .i32 := shapeCast _ x4 shapeCasts_S1x64_S64

variable (x0 : Vec F S1x5000x4 .f32) (x1 : Vec F S1x5000 .f32) (x3 : Vec F S1x64x4 .f32) (x4 : Vec F S1x64 .i32)

/-- The intersections. -/
def inter : Vec F S64x5000 .f32 := interOf (sidesOf (boxes x3) (dets x0))
/-- The overlaps. -/
def overlap : Vec F S64x5000 .f32 := overlapOf (boxes x3) (dets x0) (inter x0 x3)
/-- Each detection's largest overlap. -/
def bestOverlap : Vec F S5000 .f32 := bestOverlapOf (overlap x0 x3)
/-- Each detection's best object. -/
def bestObj : Vec F S5000 .i32 := bestObjOf (overlap x0 x3)
/-- Each object's best detection. -/
def bestDet : Vec F S64 .i32 := bestDetOf (overlap x0 x3)
/-- The matched object per detection. -/
def obj : Vec F S5000 .i32 := objOf (F := F) (bestObj x0 x3) (bestDet x0 x3)
/-- The overlap that decides, per detection. -/
def ovd : Vec F S5000 .f32 := ovdOf (bestOverlap x0 x3) (bestDet x0 x3)
/-- Which detections are positive. -/
def pos : Vec F S5000 .i1 := posOf (F := F) (matchedLabelOf (labels (F := F) x4) (obj x0 x3) (ovd x0 x3))
/-- The positive detections as zeros and ones. -/
def posf : Vec F S5000 .f32 := posfOf (pos x0 x3 x4)
/-- The number of positive detections. -/
def nPos : Vec F S_ .f32 := nPosOf (posf x0 x3 x4)
/-- The localisation loss. -/
def locLoss : Vec F S_ .f32 := locLossOf (dets x0) (trueOf (boxes x3) (obj x0 x3)) (posf x0 x3 x4) (nPos x0 x3 x4)
/-- The loss. -/
def result : Vec F S_ .f32 :=
  lossOf (hardOf (negOf (pos x0 x3 x4) (confOf (scores x1))) (nPos x0 x3 x4)) (confPosOf (confOf (scores x1)) (posf x0 x3 x4))
    (nPos x0 x3 x4) (locLoss x0 x3 x4)

end Cert.ReferenceIdeal.Value

end
-- ==== Proof.ReferenceRun.lean ====
/- The reference's run: @main as a list of operations cut into seven windows, the live buffers after each window as
   named stages of the arguments (ReferenceStages.lean), and so the result's buffer at the end. -/
module

public import proofs.«01_k».proof.Proof.Gen.ReferenceIdeal
public import proofs.«01_k».proof.Proof.ReferenceStages
public import Idealize.ShloMosaic.Lib.StableHlo.Run
public import Idealize.ShloMosaic.Lib.Pipeline.Frame
public import Idealize.ShloMosaic.Lib.Claim

@[expose] public section

set_option maxRecDepth 8192

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- Window 1 of @main's operations. -/
abbrev win1 : List (HloOp τ sig (Elt F)) :=
  [ reshape main_arg3 main_v0 (rfl : (.f32 : EltTy) = .f32) shapeCasts_S1x64x4_S64x4,
    reshape main_arg0 main_v1 (rfl : (.f32 : EltTy) = .f32) shapeCasts_S1x5000x4_S5000x4,
    reshape main_arg1 main_v2 (rfl : (.f32 : EltTy) = .f32) shapeCasts_S1x5000_S5000,
    reshape main_arg4 main_v3 (rfl : (.i32 : EltTy) = .i32) shapeCasts_S1x64_S64,
    unary main_v0 main_v4 ((extractStridedSlice S64x2 ![0, 0] · slices_S64x4_S64x2_0_0) : (⟨S64x4, .f32⟩ : BufTy).Contents (Elt F) → (⟨S64x2, .f32⟩ : BufTy).Contents (Elt F)),
    unary main_v4 main_v5 (broadcastInDim S64x1x2 ![0, 2] bcast_S64x2_S64x1x2_0_2 : (⟨S64x2, .f32⟩ : BufTy).Contents (Elt F) → (⟨S64x1x2, .f32⟩ : BufTy).Contents (Elt F)),
    unary main_v1 main_v6 ((extractStridedSlice S5000x2 ![0, 0] · slices_S5000x4_S5000x2_0_0) : (⟨S5000x4, .f32⟩ : BufTy).Contents (Elt F) → (⟨S5000x2, .f32⟩ : BufTy).Contents (Elt F)),
    unary main_v6 main_v7 (broadcastInDim S1x5000x2 ![1, 2] bcast_S5000x2_S1x5000x2_1_2 : (⟨S5000x2, .f32⟩ : BufTy).Contents (Elt F) → (⟨S1x5000x2, .f32⟩ : BufTy).Contents (Elt F)),
    unary main_v5 main_v8 (broadcastInDim S64x5000x2 ![0, 1, 2] bcast_S64x1x2_S64x5000x2_0_1_2 : (⟨S64x1x2, .f32⟩ : BufTy).Contents (Elt F) → (⟨S64x5000x2, .f32⟩ : BufTy).Contents (Elt F)),
    unary main_v7 main_v9 (broadcastInDim S64x5000x2 ![0, 1, 2] bcast_S1x5000x2_S64x5000x2_0_1_2 : (⟨S1x5000x2, .f32⟩ : BufTy).Contents (Elt F) → (⟨S64x5000x2, .f32⟩ : BufTy).Contents (Elt F)),
    binary main_v8 main_v9 main_v10 (maximumf : (⟨S64x5000x2, .f32⟩ : BufTy).Contents (Elt F) → (⟨S64x5000x2, .f32⟩ : BufTy).Contents (Elt F) → (⟨S64x5000x2, .f32⟩ : BufTy).Contents (Elt F)),
    unary main_v0 main_v11 ((extractStridedSlice S64x2 ![0, 2] · slices_S64x4_S64x2_0_2) : (⟨S64x4, .f32⟩ : BufTy).Contents (Elt F) → (⟨S64x2, .f32⟩ : BufTy).Contents (Elt F)),
    unary main_v11 main_v12 (broadcastInDim S64x1x2 ![0, 2] bcast_S64x2_S64x1x2_0_2 : (⟨S64x2, .f32⟩ : BufTy).Contents (Elt F) → (⟨S64x1x2, .f32⟩ : BufTy).Contents (Elt F)),
    unary main_v1 main_v13 ((extractStridedSlice S5000x2 ![0, 2] · slices_S5000x4_S5000x2_0_2) : (⟨S5000x4, .f32⟩ : BufTy).Contents (Elt F) → (⟨S5000x2, .f32⟩ : BufTy).Contents (Elt F)),
    unary main_v13 main_v14 (broadcastInDim S1x5000x2 ![1, 2] bcast_S5000x2_S1x5000x2_1_2 : (⟨S5000x2, .f32⟩ : BufTy).Contents (Elt F) → (⟨S1x5000x2, .f32⟩ : BufTy).Contents (Elt F)),
    unary main_v12 main_v15 (broadcastInDim S64x5000x2 ![0, 1, 2] bcast_S64x1x2_S64x5000x2_0_1_2 : (⟨S64x1x2, .f32⟩ : BufTy).Contents (Elt F) → (⟨S64x5000x2, .f32⟩ : BufTy).Contents (Elt F)),
    unary main_v14 main_v16 (broadcastInDim S64x5000x2 ![0, 1, 2] bcast_S1x5000x2_S64x5000x2_0_1_2 : (⟨S1x5000x2, .f32⟩ : BufTy).Contents (Elt F) → (⟨S64x5000x2, .f32⟩ : BufTy).Contents (Elt F)),
    binary main_v15 main_v16 main_v17 (minimumf : (⟨S64x5000x2, .f32⟩ : BufTy).Contents (Elt F) → (⟨S64x5000x2, .f32⟩ : BufTy).Contents (Elt F) → (⟨S64x5000x2, .f32⟩ : BufTy).Contents (Elt F)),
    binary main_v17 main_v10 main_v18 (subf : (⟨S64x5000x2, .f32⟩ : BufTy).Contents (Elt F) → (⟨S64x5000x2, .f32⟩ : BufTy).Contents (Elt F) → (⟨S64x5000x2, .f32⟩ : BufTy).Contents (Elt F)),
    nullary main_cst (constant S_ .f32 0x00000000#32),
    TRef.unary (TRef.of (T := ⟨S_, .f32⟩) main_cst) (TRef.of (T := ⟨S_, .f32⟩) main_call0_v0) id,
    TRef.unary (TRef.of (T := ⟨S_, .f32⟩) main_call0_v0) (TRef.of (T := ⟨S64x5000x2, .f32⟩) main_call0_v1) (broadcastInDim S64x5000x2 ![] bcast_S_S64x5000x2),
    TRef.binary (TRef.of (T := ⟨S64x5000x2, .f32⟩) main_call0_v1) (TRef.of (T := ⟨S64x5000x2, .f32⟩) main_v18) (TRef.of (T := ⟨S64x5000x2, .f32⟩) main_v19) maximumf,
    unary main_v19 main_v20 ((extractStridedSlice S64x5000x1 ![0, 0, 0] · slices_S64x5000x2_S64x5000x1_0_0_0) : (⟨S64x5000x2, .f32⟩ : BufTy).Contents (Elt F) → (⟨S64x5000x1, .f32⟩ : BufTy).Contents (Elt F)),
    reshape main_v20 main_v21 (rfl : (.f32 : EltTy) = .f32) shapeCasts_S64x5000x1_S64x5000,
    unary main_v19 main_v22 ((extractStridedSlice S64x5000x1 ![0, 0, 1] · slices_S64x5000x2_S64x5000x1_0_0_1) : (⟨S64x5000x2, .f32⟩ : BufTy).Contents (Elt F) → (⟨S64x5000x1, .f32⟩ : BufTy).Contents (Elt F)),
    reshape main_v22 main_v23 (rfl : (.f32 : EltTy) = .f32) shapeCasts_S64x5000x1_S64x5000,
    binary main_v21 main_v23 main_v24 (mulf : (⟨S64x5000, .f32⟩ : BufTy).Contents (Elt F) → (⟨S64x5000, .f32⟩ : BufTy).Contents (Elt F) → (⟨S64x5000, .f32⟩ : BufTy).Contents (Elt F)) ]

/-- Window 2 of @main's operations. -/
abbrev win2 : List (HloOp τ sig (Elt F)) :=
  [ unary main_v0 main_v25 ((extractStridedSlice S64x1 ![0, 2] · slices_S64x4_S64x1_0_2) : (⟨S64x4, .f32⟩ : BufTy).Contents (Elt F) → (⟨S64x1, .f32⟩ : BufTy).Contents (Elt F)),
    reshape main_v25 main_v26 (rfl : (.f32 : EltTy) = .f32) shapeCasts_S64x1_S64,
    unary main_v0 main_v27 ((extractStridedSlice S64x1 ![0, 0] · slices_S64x4_S64x1_0_0) : (⟨S64x4, .f32⟩ : BufTy).Contents (Elt F) → (⟨S64x1, .f32⟩ : BufTy).Contents (Elt F)),
    reshape main_v27 main_v28 (rfl : (.f32 : EltTy) = .f32) shapeCasts_S64x1_S64,
    binary main_v26 main_v28 main_v29 (subf : (⟨S64, .f32⟩ : BufTy).Contents (Elt F) → (⟨S64, .f32⟩ : BufTy).Contents (Elt F) → (⟨S64, .f32⟩ : BufTy).Contents (Elt F)),
    unary main_v0 main_v30 ((extractStridedSlice S64x1 ![0, 3] · slices_S64x4_S64x1_0_3) : (⟨S64x4, .f32⟩ : BufTy).Contents (Elt F) → (⟨S64x1, .f32⟩ : BufTy).Contents (Elt F)),
    reshape main_v30 main_v31 (rfl : (.f32 : EltTy) = .f32) shapeCasts_S64x1_S64,
    unary main_v0 main_v32 ((extractStridedSlice S64x1 ![0, 1] · slices_S64x4_S64x1_0_1) : (⟨S64x4, .f32⟩ : BufTy).Contents (Elt F) → (⟨S64x1, .f32⟩ : BufTy).Contents (Elt F)),
    reshape main_v32 main_v33 (rfl : (.f32 : EltTy) = .f32) shapeCasts_S64x1_S64,
    binary main_v31 main_v33 main_v34 (subf : (⟨S64, .f32⟩ : BufTy).Contents (Elt F) → (⟨S64, .f32⟩ : BufTy).Contents (Elt F) → (⟨S64, .f32⟩ : BufTy).Contents (Elt F)),
    binary main_v29 main_v34 main_v35 (mulf : (⟨S64, .f32⟩ : BufTy).Contents (Elt F) → (⟨S64, .f32⟩ : BufTy).Contents (Elt F) → (⟨S64, .f32⟩ : BufTy).Contents (Elt F)),
    unary main_v1 main_v36 ((extractStridedSlice S5000x1 ![0, 2] · slices_S5000x4_S5000x1_0_2) : (⟨S5000x4, .f32⟩ : BufTy).Contents (Elt F) → (⟨S5000x1, .f32⟩ : BufTy).Contents (Elt F)),
    reshape main_v36 main_v37 (rfl : (.f32 : EltTy) = .f32) shapeCasts_S5000x1_S5000,
    unary main_v1 main_v38 ((extractStridedSlice S5000x1 ![0, 0] · slices_S5000x4_S5000x1_0_0) : (⟨S5000x4, .f32⟩ : BufTy).Contents (Elt F) → (⟨S5000x1, .f32⟩ : BufTy).Contents (Elt F)),
    reshape main_v38 main_v39 (rfl : (.f32 : EltTy) = .f32) shapeCasts_S5000x1_S5000,
    binary main_v37 main_v39 main_v40 (subf : (⟨S5000, .f32⟩ : BufTy).Contents (Elt F) → (⟨S5000, .f32⟩ : BufTy).Contents (Elt F) → (⟨S5000, .f32⟩ : BufTy).Contents (Elt F)),
    unary main_v1 main_v41 ((extractStridedSlice S5000x1 ![0, 3] · slices_S5000x4_S5000x1_0_3) : (⟨S5000x4, .f32⟩ : BufTy).Contents (Elt F) → (⟨S5000x1, .f32⟩ : BufTy).Contents (Elt F)),
    reshape main_v41 main_v42 (rfl : (.f32 : EltTy) = .f32) shapeCasts_S5000x1_S5000,
    unary main_v1 main_v43 ((extractStridedSlice S5000x1 ![0, 1] · slices_S5000x4_S5000x1_0_1) : (⟨S5000x4, .f32⟩ : BufTy).Contents (Elt F) → (⟨S5000x1, .f32⟩ : BufTy).Contents (Elt F)),
    reshape main_v43 main_v44 (rfl : (.f32 : EltTy) = .f32) shapeCasts_S5000x1_S5000,
    binary main_v42 main_v44 main_v45 (subf : (⟨S5000, .f32⟩ : BufTy).Contents (Elt F) → (⟨S5000, .f32⟩ : BufTy).Contents (Elt F) → (⟨S5000, .f32⟩ : BufTy).Contents (Elt F)),
    binary main_v40 main_v45 main_v46 (mulf : (⟨S5000, .f32⟩ : BufTy).Contents (Elt F) → (⟨S5000, .f32⟩ : BufTy).Contents (Elt F) → (⟨S5000, .f32⟩ : BufTy).Contents (Elt F)),
    unary main_v35 main_v47 (broadcastInDim S64x1 ![0] bcast_S64_S64x1_0 : (⟨S64, .f32⟩ : BufTy).Contents (Elt F) → (⟨S64x1, .f32⟩ : BufTy).Contents (Elt F)),
    unary main_v46 main_v48 (broadcastInDim S1x5000 ![1] bcast_S5000_S1x5000_1 : (⟨S5000, .f32⟩ : BufTy).Contents (Elt F) → (⟨S1x5000, .f32⟩ : BufTy).Contents (Elt F)),
    unary main_v47 main_v49 (broadcastInDim S64x5000 ![0, 1] bcast_S64x1_S64x5000_0_1 : (⟨S64x1, .f32⟩ : BufTy).Contents (Elt F) → (⟨S64x5000, .f32⟩ : BufTy).Contents (Elt F)),
    unary main_v48 main_v50 (broadcastInDim S64x5000 ![0, 1] bcast_S1x5000_S64x5000_0_1 : (⟨S1x5000, .f32⟩ : BufTy).Contents (Elt F) → (⟨S64x5000, .f32⟩ : BufTy).Contents (Elt F)),
    binary main_v49 main_v50 main_v51 (addf : (⟨S64x5000, .f32⟩ : BufTy).Contents (Elt F) → (⟨S64x5000, .f32⟩ : BufTy).Contents (Elt F) → (⟨S64x5000, .f32⟩ : BufTy).Contents (Elt F)),
    binary main_v51 main_v24 main_v52 (subf : (⟨S64x5000, .f32⟩ : BufTy).Contents (Elt F) → (⟨S64x5000, .f32⟩ : BufTy).Contents (Elt F) → (⟨S64x5000, .f32⟩ : BufTy).Contents (Elt F)),
    binary main_v24 main_v52 main_v53 (Host.divf : (⟨S64x5000, .f32⟩ : BufTy).Contents (Elt F) → (⟨S64x5000, .f32⟩ : BufTy).Contents (Elt F) → (⟨S64x5000, .f32⟩ : BufTy).Contents (Elt F)) ]

/-- Window 3 of @main's operations. -/
abbrev win3 : List (HloOp τ sig (Elt F)) :=
  [ nullary main_cst_0 (constant S_ .f32 0xFF800000#32),
    binary main_v53 main_cst_0 main_v54 ((fun x v => Host.reduce FloatOps.maximumf x v reducesTo_S64x5000_S5000_d0 h_S_) : (⟨S64x5000, .f32⟩ : BufTy).Contents (Elt F) → (⟨S_, .f32⟩ : BufTy).Contents (Elt F) → (⟨S5000, .f32⟩ : BufTy).Contents (Elt F)),
    TRef.nullary (TRef.of (T := ⟨S64x5000, .i32⟩) main_call1_v0) (iotaInDim S64x5000 32 0),
    TRef.nullary (TRef.of (T := ⟨S_, .f32⟩) main_call1_cst) (constant S_ .f32 0xFF800000#32),
    TRef.nullary (TRef.of (T := ⟨S_, .i32⟩) main_call1_c) (constantI S_ 32 0#32),
    TRef.quaternary (TRef.of (T := ⟨S64x5000, .f32⟩) main_v53) (TRef.of (T := ⟨S64x5000, .i32⟩) main_call1_v0) (TRef.of (T := ⟨S_, .f32⟩) main_call1_cst) (TRef.of (T := ⟨S_, .i32⟩) main_call1_c) (TRef.of (T := ⟨S5000, .f32⟩) main_call1_v1_0) (fun x y u v j => (Host.argReduce reducer_argmax_f32_i32 x y u v reducesTo_S64x5000_S5000_d0 h_S_ j).1),
    TRef.quaternary (TRef.of (T := ⟨S64x5000, .f32⟩) main_v53) (TRef.of (T := ⟨S64x5000, .i32⟩) main_call1_v0) (TRef.of (T := ⟨S_, .f32⟩) main_call1_cst) (TRef.of (T := ⟨S_, .i32⟩) main_call1_c) (TRef.of (T := ⟨S5000, .i32⟩) main_v55) (fun x y u v j => (Host.argReduce reducer_argmax_f32_i32 x y u v reducesTo_S64x5000_S5000_d0 h_S_ j).2),
    TRef.nullary (TRef.of (T := ⟨S64x5000, .i32⟩) main_call2_v0) (iotaInDim S64x5000 32 1),
    TRef.nullary (TRef.of (T := ⟨S_, .f32⟩) main_call2_cst) (constant S_ .f32 0xFF800000#32),
    TRef.nullary (TRef.of (T := ⟨S_, .i32⟩) main_call2_c) (constantI S_ 32 0#32),
    TRef.quaternary (TRef.of (T := ⟨S64x5000, .f32⟩) main_v53) (TRef.of (T := ⟨S64x5000, .i32⟩) main_call2_v0) (TRef.of (T := ⟨S_, .f32⟩) main_call2_cst) (TRef.of (T := ⟨S_, .i32⟩) main_call2_c) (TRef.of (T := ⟨S64, .f32⟩) main_call2_v1_0) (fun x y u v j => (Host.argReduce reducer_argmax_f32_i32 x y u v reducesTo_S64x5000_S64_d1 h_S_ j).1),
    TRef.quaternary (TRef.of (T := ⟨S64x5000, .f32⟩) main_v53) (TRef.of (T := ⟨S64x5000, .i32⟩) main_call2_v0) (TRef.of (T := ⟨S_, .f32⟩) main_call2_cst) (TRef.of (T := ⟨S_, .i32⟩) main_call2_c) (TRef.of (T := ⟨S64, .i32⟩) main_v56) (fun x y u v j => (Host.argReduce reducer_argmax_f32_i32 x y u v reducesTo_S64x5000_S64_d1 h_S_ j).2),
    nullary main_v57 (iotaInDim S64 32 0) ]

/-- Window 4 of @main's operations. -/
abbrev win4 : List (HloOp τ sig (Elt F)) :=
  [ nullary main_c (constantI S_ 32 0#32),
    unary main_c main_v58 (broadcastInDim S64 ![] bcast_S_S64 : (⟨S_, .i32⟩ : BufTy).Contents (Elt F) → (⟨S64, .i32⟩ : BufTy).Contents (Elt F)),
    binary main_v56 main_v58 main_v59 (cmpi .slt : (⟨S64, .i32⟩ : BufTy).Contents (Elt F) → (⟨S64, .i32⟩ : BufTy).Contents (Elt F) → (⟨S64, .i1⟩ : BufTy).Contents (Elt F)),
    nullary main_c_1 (constantI S_ 32 5000#32),
    unary main_c_1 main_v60 (broadcastInDim S64 ![] bcast_S_S64 : (⟨S_, .i32⟩ : BufTy).Contents (Elt F) → (⟨S64, .i32⟩ : BufTy).Contents (Elt F)),
    binary main_v56 main_v60 main_v61 (addi : (⟨S64, .i32⟩ : BufTy).Contents (Elt F) → (⟨S64, .i32⟩ : BufTy).Contents (Elt F) → (⟨S64, .i32⟩ : BufTy).Contents (Elt F)),
    ternary main_v59 main_v61 main_v56 main_v62 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    unary main_v62 main_v63 (broadcastInDim S64x1 ![0] bcast_S64_S64x1_0 : (⟨S64, .i32⟩ : BufTy).Contents (Elt F) → (⟨S64x1, .i32⟩ : BufTy).Contents (Elt F)),
    ternary main_v55 main_v63 main_v57 main_v64 ((fun x i u => Host.scatter scatter_S5000_S64x1_S64_n_0_0_1 (fun _ b => b) x i u) : (⟨S5000, .i32⟩ : BufTy).Contents (Elt F) → (⟨S64x1, .i32⟩ : BufTy).Contents (Elt F) → (⟨S64, .i32⟩ : BufTy).Contents (Elt F) → (⟨S5000, .i32⟩ : BufTy).Contents (Elt F)),
    nullary main_c_2 (constantI S_ 32 0#32),
    unary main_c_2 main_v65 (broadcastInDim S64 ![] bcast_S_S64 : (⟨S_, .i32⟩ : BufTy).Contents (Elt F) → (⟨S64, .i32⟩ : BufTy).Contents (Elt F)),
    binary main_v56 main_v65 main_v66 (cmpi .slt : (⟨S64, .i32⟩ : BufTy).Contents (Elt F) → (⟨S64, .i32⟩ : BufTy).Contents (Elt F) → (⟨S64, .i1⟩ : BufTy).Contents (Elt F)),
    nullary main_c_3 (constantI S_ 32 5000#32),
    unary main_c_3 main_v67 (broadcastInDim S64 ![] bcast_S_S64 : (⟨S_, .i32⟩ : BufTy).Contents (Elt F) → (⟨S64, .i32⟩ : BufTy).Contents (Elt F)),
    binary main_v56 main_v67 main_v68 (addi : (⟨S64, .i32⟩ : BufTy).Contents (Elt F) → (⟨S64, .i32⟩ : BufTy).Contents (Elt F) → (⟨S64, .i32⟩ : BufTy).Contents (Elt F)),
    ternary main_v66 main_v68 main_v56 main_v69 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    unary main_v69 main_v70 (broadcastInDim S64x1 ![0] bcast_S64_S64x1_0 : (⟨S64, .i32⟩ : BufTy).Contents (Elt F) → (⟨S64x1, .i32⟩ : BufTy).Contents (Elt F)),
    nullary main_cst_4 (constant S_ .f32 0x3F800000#32),
    unary main_cst_4 main_v71 (broadcastInDim S64 ![] bcast_S_S64 : (⟨S_, .f32⟩ : BufTy).Contents (Elt F) → (⟨S64, .f32⟩ : BufTy).Contents (Elt F)),
    ternary main_v54 main_v70 main_v71 main_v72 ((fun x i u => Host.scatter scatter_S5000_S64x1_S64_n_0_0_1 (fun _ b => b) x i u) : (⟨S5000, .f32⟩ : BufTy).Contents (Elt F) → (⟨S64x1, .i32⟩ : BufTy).Contents (Elt F) → (⟨S64, .f32⟩ : BufTy).Contents (Elt F) → (⟨S5000, .f32⟩ : BufTy).Contents (Elt F)) ]

/-- Window 5 of @main's operations. -/
abbrev win5 : List (HloOp τ sig (Elt F)) :=
  [ nullary main_c_5 (constantI S_ 32 0#32),
    unary main_c_5 main_v73 (broadcastInDim S5000 ![] bcast_S_S5000 : (⟨S_, .i32⟩ : BufTy).Contents (Elt F) → (⟨S5000, .i32⟩ : BufTy).Contents (Elt F)),
    binary main_v64 main_v73 main_v74 (cmpi .slt : (⟨S5000, .i32⟩ : BufTy).Contents (Elt F) → (⟨S5000, .i32⟩ : BufTy).Contents (Elt F) → (⟨S5000, .i1⟩ : BufTy).Contents (Elt F)),
    nullary main_c_6 (constantI S_ 32 64#32),
    unary main_c_6 main_v75 (broadcastInDim S5000 ![] bcast_S_S5000 : (⟨S_, .i32⟩ : BufTy).Contents (Elt F) → (⟨S5000, .i32⟩ : BufTy).Contents (Elt F)),
    binary main_v64 main_v75 main_v76 (addi : (⟨S5000, .i32⟩ : BufTy).Contents (Elt F) → (⟨S5000, .i32⟩ : BufTy).Contents (Elt F) → (⟨S5000, .i32⟩ : BufTy).Contents (Elt F)),
    ternary main_v74 main_v76 main_v64 main_v77 (select : (⟨S5000, .i1⟩ : BufTy).Contents (Elt F) → (⟨S5000, .i32⟩ : BufTy).Contents (Elt F) → (⟨S5000, .i32⟩ : BufTy).Contents (Elt F) → (⟨S5000, .i32⟩ : BufTy).Contents (Elt F)),
    unary main_v77 main_v78 (broadcastInDim S5000x1 ![0] bcast_S5000_S5000x1_0 : (⟨S5000, .i32⟩ : BufTy).Contents (Elt F) → (⟨S5000x1, .i32⟩ : BufTy).Contents (Elt F)),
    binary main_v3 main_v78 main_v79 ((fun x i => Host.gather gather_S64_S5000x1_S5000_n_0_n_n_0_1_1 x i) : (⟨S64, .i32⟩ : BufTy).Contents (Elt F) → (⟨S5000x1, .i32⟩ : BufTy).Contents (Elt F) → (⟨S5000, .i32⟩ : BufTy).Contents (Elt F)),
    nullary main_cst_7 (constant S_ .f32 0x3F000000#32),
    unary main_cst_7 main_v80 (broadcastInDim S5000 ![] bcast_S_S5000 : (⟨S_, .f32⟩ : BufTy).Contents (Elt F) → (⟨S5000, .f32⟩ : BufTy).Contents (Elt F)),
    binary main_v72 main_v80 main_v81 (cmpf .olt : (⟨S5000, .f32⟩ : BufTy).Contents (Elt F) → (⟨S5000, .f32⟩ : BufTy).Contents (Elt F) → (⟨S5000, .i1⟩ : BufTy).Contents (Elt F)),
    nullary main_c_8 (constantI S_ 32 0#32),
    TRef.unary (TRef.of (T := ⟨S_, .i32⟩) main_c_8) (TRef.of (T := ⟨S_, .i32⟩) main_call3_v0) id,
    TRef.unary (TRef.of (T := ⟨S_, .i32⟩) main_call3_v0) (TRef.of (T := ⟨S5000, .i32⟩) main_call3_v1) (broadcastInDim S5000 ![] bcast_S_S5000),
    TRef.ternary (TRef.of (T := ⟨S5000, .i1⟩) main_v81) (TRef.of (T := ⟨S5000, .i32⟩) main_call3_v1) (TRef.of (T := ⟨S5000, .i32⟩) main_v79) (TRef.of (T := ⟨S5000, .i32⟩) main_v82) select,
    nullary main_c_9 (constantI S_ 32 0#32),
    unary main_c_9 main_v83 (broadcastInDim S5000 ![] bcast_S_S5000 : (⟨S_, .i32⟩ : BufTy).Contents (Elt F) → (⟨S5000, .i32⟩ : BufTy).Contents (Elt F)),
    binary main_v82 main_v83 main_v84 (cmpi .ne : (⟨S5000, .i32⟩ : BufTy).Contents (Elt F) → (⟨S5000, .i32⟩ : BufTy).Contents (Elt F) → (⟨S5000, .i1⟩ : BufTy).Contents (Elt F)) ]

/-- Window 6 of @main's operations. -/
abbrev win6 : List (HloOp τ sig (Elt F)) :=
  [ nullary main_c_10 (constantI S_ 32 0#32),
    unary main_c_10 main_v85 (broadcastInDim S5000 ![] bcast_S_S5000 : (⟨S_, .i32⟩ : BufTy).Contents (Elt F) → (⟨S5000, .i32⟩ : BufTy).Contents (Elt F)),
    binary main_v64 main_v85 main_v86 (cmpi .slt : (⟨S5000, .i32⟩ : BufTy).Contents (Elt F) → (⟨S5000, .i32⟩ : BufTy).Contents (Elt F) → (⟨S5000, .i1⟩ : BufTy).Contents (Elt F)),
    nullary main_c_11 (constantI S_ 32 64#32),
    unary main_c_11 main_v87 (broadcastInDim S5000 ![] bcast_S_S5000 : (⟨S_, .i32⟩ : BufTy).Contents (Elt F) → (⟨S5000, .i32⟩ : BufTy).Contents (Elt F)),
    binary main_v64 main_v87 main_v88 (addi : (⟨S5000, .i32⟩ : BufTy).Contents (Elt F) → (⟨S5000, .i32⟩ : BufTy).Contents (Elt F) → (⟨S5000, .i32⟩ : BufTy).Contents (Elt F)),
    ternary main_v86 main_v88 main_v64 main_v89 (select : (⟨S5000, .i1⟩ : BufTy).Contents (Elt F) → (⟨S5000, .i32⟩ : BufTy).Contents (Elt F) → (⟨S5000, .i32⟩ : BufTy).Contents (Elt F) → (⟨S5000, .i32⟩ : BufTy).Contents (Elt F)),
    unary main_v89 main_v90 (broadcastInDim S5000x1 ![0] bcast_S5000_S5000x1_0 : (⟨S5000, .i32⟩ : BufTy).Contents (Elt F) → (⟨S5000x1, .i32⟩ : BufTy).Contents (Elt F)),
    binary main_v0 main_v90 main_v91 ((fun x i => Host.gather gather_S64x4_S5000x1_S5000x4_1_0_n_n_0_1_14 x i) : (⟨S64x4, .f32⟩ : BufTy).Contents (Elt F) → (⟨S5000x1, .i32⟩ : BufTy).Contents (Elt F) → (⟨S5000x4, .f32⟩ : BufTy).Contents (Elt F)),
    unary main_v84 main_v92 (uitofp .f32 : (⟨S5000, .i1⟩ : BufTy).Contents (Elt F) → (⟨S5000, .f32⟩ : BufTy).Contents (Elt F)),
    nullary main_cst_12 (constant S_ .f32 0x00000000#32),
    binary main_v92 main_cst_12 main_v93 ((fun x v => Host.reduceAdd x v reducesTo_S5000_S_d0 h_S_) : (⟨S5000, .f32⟩ : BufTy).Contents (Elt F) → (⟨S_, .f32⟩ : BufTy).Contents (Elt F) → (⟨S_, .f32⟩ : BufTy).Contents (Elt F)),
    binary main_v1 main_v91 main_v94 (subf : (⟨S5000x4, .f32⟩ : BufTy).Contents (Elt F) → (⟨S5000x4, .f32⟩ : BufTy).Contents (Elt F) → (⟨S5000x4, .f32⟩ : BufTy).Contents (Elt F)),
    unary main_v94 main_v95 (Host.absf : (⟨S5000x4, .f32⟩ : BufTy).Contents (Elt F) → (⟨S5000x4, .f32⟩ : BufTy).Contents (Elt F)),
    unary main_v92 main_v96 (broadcastInDim S5000x1 ![0] bcast_S5000_S5000x1_0 : (⟨S5000, .f32⟩ : BufTy).Contents (Elt F) → (⟨S5000x1, .f32⟩ : BufTy).Contents (Elt F)),
    unary main_v96 main_v97 (broadcastInDim S5000x4 ![0, 1] bcast_S5000x1_S5000x4_0_1 : (⟨S5000x1, .f32⟩ : BufTy).Contents (Elt F) → (⟨S5000x4, .f32⟩ : BufTy).Contents (Elt F)),
    binary main_v95 main_v97 main_v98 (mulf : (⟨S5000x4, .f32⟩ : BufTy).Contents (Elt F) → (⟨S5000x4, .f32⟩ : BufTy).Contents (Elt F) → (⟨S5000x4, .f32⟩ : BufTy).Contents (Elt F)),
    nullary main_cst_13 (constant S_ .f32 0x00000000#32),
    binary main_v98 main_cst_13 main_v99 ((fun x v => Host.reduceAdd x v reducesTo_S5000x4_S_d0_1 h_S_) : (⟨S5000x4, .f32⟩ : BufTy).Contents (Elt F) → (⟨S_, .f32⟩ : BufTy).Contents (Elt F) → (⟨S_, .f32⟩ : BufTy).Contents (Elt F)),
    nullary main_cst_14 (constant S_ .f32 0x40800000#32),
    binary main_v93 main_cst_14 main_v100 (mulf : (⟨S_, .f32⟩ : BufTy).Contents (Elt F) → (⟨S_, .f32⟩ : BufTy).Contents (Elt F) → (⟨S_, .f32⟩ : BufTy).Contents (Elt F)),
    binary main_v99 main_v100 main_v101 (Host.divf : (⟨S_, .f32⟩ : BufTy).Contents (Elt F) → (⟨S_, .f32⟩ : BufTy).Contents (Elt F) → (⟨S_, .f32⟩ : BufTy).Contents (Elt F)),
    nullary main_cst_15 (constant S_ .f32 0x40400000#32) ]

/-- Window 7 of @main's operations. -/
abbrev win7 : List (HloOp τ sig (Elt F)) :=
  [ binary main_cst_15 main_v93 main_v102 (mulf : (⟨S_, .f32⟩ : BufTy).Contents (Elt F) → (⟨S_, .f32⟩ : BufTy).Contents (Elt F) → (⟨S_, .f32⟩ : BufTy).Contents (Elt F)),
    nullary main_cst_16 (constant S_ .f32 0x3F800000#32),
    unary main_cst_16 main_v103 (broadcastInDim S5000 ![] bcast_S_S5000 : (⟨S_, .f32⟩ : BufTy).Contents (Elt F) → (⟨S5000, .f32⟩ : BufTy).Contents (Elt F)),
    binary main_v103 main_v2 main_v104 (subf : (⟨S5000, .f32⟩ : BufTy).Contents (Elt F) → (⟨S5000, .f32⟩ : BufTy).Contents (Elt F) → (⟨S5000, .f32⟩ : BufTy).Contents (Elt F)),
    binary main_v104 main_v92 main_v105 (mulf : (⟨S5000, .f32⟩ : BufTy).Contents (Elt F) → (⟨S5000, .f32⟩ : BufTy).Contents (Elt F) → (⟨S5000, .f32⟩ : BufTy).Contents (Elt F)),
    nullary main_cst_17 (constant S_ .f32 0x00000000#32),
    binary main_v105 main_cst_17 main_v106 ((fun x v => Host.reduceAdd x v reducesTo_S5000_S_d0 h_S_) : (⟨S5000, .f32⟩ : BufTy).Contents (Elt F) → (⟨S_, .f32⟩ : BufTy).Contents (Elt F) → (⟨S_, .f32⟩ : BufTy).Contents (Elt F)),
    nullary main_cst_18 (constant S_ .f32 0x00000000#32),
    TRef.unary (TRef.of (T := ⟨S_, .f32⟩) main_cst_18) (TRef.of (T := ⟨S_, .f32⟩) main_call4_v0) id,
    TRef.unary (TRef.of (T := ⟨S_, .f32⟩) main_call4_v0) (TRef.of (T := ⟨S5000, .f32⟩) main_call4_v1) (broadcastInDim S5000 ![] bcast_S_S5000),
    TRef.ternary (TRef.of (T := ⟨S5000, .i1⟩) main_v84) (TRef.of (T := ⟨S5000, .f32⟩) main_call4_v1) (TRef.of (T := ⟨S5000, .f32⟩) main_v104) (TRef.of (T := ⟨S5000, .f32⟩) main_v107) select,
    TRef.unary (TRef.of (T := ⟨S5000, .f32⟩) main_v107) (TRef.of (T := ⟨S5000, .f32⟩) main_v108) (fun x => Host.sort S5000 0 comparator_f32_d0 x),
    unary main_v108 main_v109 (Host.reverse [0] : (⟨S5000, .f32⟩ : BufTy).Contents (Elt F) → (⟨S5000, .f32⟩ : BufTy).Contents (Elt F)),
    nullary main_v110 (iotaInDim S5000 32 0),
    unary main_v110 main_v111 (sitofp .f32 : (⟨S5000, .i32⟩ : BufTy).Contents (Elt F) → (⟨S5000, .f32⟩ : BufTy).Contents (Elt F)),
    unary main_v102 main_v112 (broadcastInDim S5000 ![] bcast_S_S5000 : (⟨S_, .f32⟩ : BufTy).Contents (Elt F) → (⟨S5000, .f32⟩ : BufTy).Contents (Elt F)),
    binary main_v111 main_v112 main_v113 (cmpf .olt : (⟨S5000, .f32⟩ : BufTy).Contents (Elt F) → (⟨S5000, .f32⟩ : BufTy).Contents (Elt F) → (⟨S5000, .i1⟩ : BufTy).Contents (Elt F)),
    unary main_v113 main_v114 (uitofp .f32 : (⟨S5000, .i1⟩ : BufTy).Contents (Elt F) → (⟨S5000, .f32⟩ : BufTy).Contents (Elt F)),
    binary main_v109 main_v114 main_v115 (mulf : (⟨S5000, .f32⟩ : BufTy).Contents (Elt F) → (⟨S5000, .f32⟩ : BufTy).Contents (Elt F) → (⟨S5000, .f32⟩ : BufTy).Contents (Elt F)),
    nullary main_cst_19 (constant S_ .f32 0x00000000#32),
    binary main_v115 main_cst_19 main_v116 ((fun x v => Host.reduceAdd x v reducesTo_S5000_S_d0 h_S_) : (⟨S5000, .f32⟩ : BufTy).Contents (Elt F) → (⟨S_, .f32⟩ : BufTy).Contents (Elt F) → (⟨S_, .f32⟩ : BufTy).Contents (Elt F)),
    binary main_v116 main_v106 main_v117 (addf : (⟨S_, .f32⟩ : BufTy).Contents (Elt F) → (⟨S_, .f32⟩ : BufTy).Contents (Elt F) → (⟨S_, .f32⟩ : BufTy).Contents (Elt F)),
    binary main_v117 main_v93 main_v118 (Host.divf : (⟨S_, .f32⟩ : BufTy).Contents (Elt F) → (⟨S_, .f32⟩ : BufTy).Contents (Elt F) → (⟨S_, .f32⟩ : BufTy).Contents (Elt F)),
    nullary main_cst_20 (constant S_ .f32 0x3F800000#32),
    binary main_cst_20 main_v101 main_v119 (mulf : (⟨S_, .f32⟩ : BufTy).Contents (Elt F) → (⟨S_, .f32⟩ : BufTy).Contents (Elt F) → (⟨S_, .f32⟩ : BufTy).Contents (Elt F)),
    binary main_v118 main_v119 main_v120 (addf : (⟨S_, .f32⟩ : BufTy).Contents (Elt F) → (⟨S_, .f32⟩ : BufTy).Contents (Elt F) → (⟨S_, .f32⟩ : BufTy).Contents (Elt F)) ]

/-- The operations of `main_part0`. -/
def ops0 : List (HloOp τ sig (Elt F)) := win1 ++ (win2 ++ (win3))
/-- The operations of `main_part1`. -/
def ops1 : List (HloOp τ sig (Elt F)) := win4 ++ (win5 ++ (win6))
/-- The operations of `main_part2`. -/
def ops2 : List (HloOp τ sig (Elt F)) := win7
/-- All of @main's operations. -/
def ops : List (HloOp τ sig (Elt F)) := ops0 ++ (ops1 ++ ops2)

set_option maxHeartbeats 4000000 in
theorem main_part0_eq (c : Dev nD) : main_part0 (F := F) c = seq ops0 := rfl
set_option maxHeartbeats 4000000 in
theorem main_part1_eq (c : Dev nD) : main_part1 (F := F) c = seq ops1 := rfl
set_option maxHeartbeats 4000000 in
theorem main_part2_eq (c : Dev nD) : main_part2 (F := F) c = seq ops2 := rfl
theorem main_eq (c : Dev nD) : main (F := F) c = seq ops := by
  simp only [ops, seq_append, ← main_part0_eq c, ← main_part1_eq c, ← main_part2_eq c]
  rfl
theorem scopedRefs_eq : (Finset.univ.filter fun b : Ref sig .tc => b.isScoped) = ∅ := by decide
theorem scopedSems_eq : (Finset.univ.filter fun sm : SemLoc sig => sm.isScoped .tc) = ∅ := by decide
theorem win1_sub : (win1 : List (HloOp τ sig (Elt F))).Forall fun op => op.bufs ⊆ tcRefs τ sig :=
  ⟨reshape_bufs_sub .., reshape_bufs_sub .., reshape_bufs_sub .., reshape_bufs_sub .., unary_bufs_sub .., unary_bufs_sub .., unary_bufs_sub .., unary_bufs_sub .., unary_bufs_sub .., unary_bufs_sub .., binary_bufs_sub .., unary_bufs_sub .., unary_bufs_sub .., unary_bufs_sub .., unary_bufs_sub .., unary_bufs_sub .., unary_bufs_sub .., binary_bufs_sub .., binary_bufs_sub .., nullary_bufs_sub .., unary_bufs_sub .., unary_bufs_sub .., binary_bufs_sub .., unary_bufs_sub .., reshape_bufs_sub .., unary_bufs_sub .., reshape_bufs_sub .., binary_bufs_sub ..⟩
theorem win1_fresh : (win1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl⟩
theorem win2_sub : (win2 : List (HloOp τ sig (Elt F))).Forall fun op => op.bufs ⊆ tcRefs τ sig :=
  ⟨unary_bufs_sub .., reshape_bufs_sub .., unary_bufs_sub .., reshape_bufs_sub .., binary_bufs_sub .., unary_bufs_sub .., reshape_bufs_sub .., unary_bufs_sub .., reshape_bufs_sub .., binary_bufs_sub .., binary_bufs_sub .., unary_bufs_sub .., reshape_bufs_sub .., unary_bufs_sub .., reshape_bufs_sub .., binary_bufs_sub .., unary_bufs_sub .., reshape_bufs_sub .., unary_bufs_sub .., reshape_bufs_sub .., binary_bufs_sub .., binary_bufs_sub .., unary_bufs_sub .., unary_bufs_sub .., unary_bufs_sub .., unary_bufs_sub .., binary_bufs_sub .., binary_bufs_sub .., binary_bufs_sub ..⟩
theorem win2_fresh : (win2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl⟩
theorem win3_sub : (win3 : List (HloOp τ sig (Elt F))).Forall fun op => op.bufs ⊆ tcRefs τ sig :=
  ⟨nullary_bufs_sub .., binary_bufs_sub .., nullary_bufs_sub .., nullary_bufs_sub .., nullary_bufs_sub .., quaternary_bufs_sub .., quaternary_bufs_sub .., nullary_bufs_sub .., nullary_bufs_sub .., nullary_bufs_sub .., quaternary_bufs_sub .., quaternary_bufs_sub .., nullary_bufs_sub ..⟩
theorem win3_fresh : (win3 : List (HloOp τ sig (Elt F))).Forall fun op => op.fresh = ∅ :=
  ⟨rfl, rfl, rfl, rfl, rfl, rfl, rfl, rfl, rfl, rfl, rfl, rfl, rfl⟩
theorem win4_sub : (win4 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., ternary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub ..⟩
theorem win4_fresh : (win4 : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩
theorem win5_sub : (win5 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub ..⟩
theorem win5_fresh : (win5 : List (HloOp τ sig (Elt F))).Forall fun op => op.fresh = ∅ :=
  ⟨rfl, rfl, rfl, rfl, rfl, rfl, rfl, rfl, rfl, rfl, rfl, rfl, rfl, rfl, rfl, rfl, rfl, rfl, rfl⟩
theorem win6_sub : (win6 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., nullary_bufs_sub .., binary_bufs_sub .., binary_bufs_sub .., unary_bufs_sub .., unary_bufs_sub .., unary_bufs_sub .., binary_bufs_sub .., nullary_bufs_sub .., binary_bufs_sub .., nullary_bufs_sub .., binary_bufs_sub .., binary_bufs_sub .., nullary_bufs_sub ..⟩
theorem win6_fresh : (win6 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩
theorem win7_sub : (win7 : List (HloOp τ sig (Elt F))).Forall fun op => op.bufs ⊆ tcRefs τ sig :=
  ⟨binary_bufs_sub .., nullary_bufs_sub .., unary_bufs_sub .., binary_bufs_sub .., binary_bufs_sub .., nullary_bufs_sub .., binary_bufs_sub .., nullary_bufs_sub .., unary_bufs_sub .., unary_bufs_sub .., ternary_bufs_sub .., unary_bufs_sub .., unary_bufs_sub .., nullary_bufs_sub .., unary_bufs_sub .., unary_bufs_sub .., binary_bufs_sub .., unary_bufs_sub .., binary_bufs_sub .., nullary_bufs_sub .., binary_bufs_sub .., binary_bufs_sub .., binary_bufs_sub .., nullary_bufs_sub .., binary_bufs_sub .., binary_bufs_sub ..⟩
theorem win7_fresh : (win7 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl⟩
theorem ops_sub : (ops : List (HloOp τ sig (Elt F))).Forall fun op => op.bufs ⊆ tcRefs τ sig :=
  List.forall_iff_forall_mem.mpr fun op h => by
    simp only [ops, ops0, ops1, ops2, List.mem_append, or_assoc] at h
    rcases h with h | h | h | h | h | h | h
    exacts [List.forall_iff_forall_mem.mp win1_sub op h, List.forall_iff_forall_mem.mp win2_sub op h, List.forall_iff_forall_mem.mp win3_sub op h, List.forall_iff_forall_mem.mp win4_sub op h, List.forall_iff_forall_mem.mp win5_sub op h, List.forall_iff_forall_mem.mp win6_sub op h, List.forall_iff_forall_mem.mp win7_sub op h]
theorem ops_fresh : ∀ op ∈ (ops : List (HloOp τ sig (Elt F))), op.fresh = ∅ := fun op h => by
    simp only [ops, ops0, ops1, ops2, List.mem_append, or_assoc] at h
    rcases h with h | h | h | h | h | h | h
    exacts [List.forall_iff_forall_mem.mp win1_fresh op h, List.forall_iff_forall_mem.mp win2_fresh op h, List.forall_iff_forall_mem.mp win3_fresh op h, List.forall_iff_forall_mem.mp win4_fresh op h, List.forall_iff_forall_mem.mp win5_fresh op h, List.forall_iff_forall_mem.mp win6_fresh op h, List.forall_iff_forall_mem.mp win7_fresh op h]

/-- The contents before the first window. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl
theorem val0_main_arg2 (V0 : Valuation τ sig (Elt F)) : val0 V0 (no_index (Proc.devRef .tc main_arg2)) = V0 (Proc.devRef .tc main_arg2) := rfl
theorem val0_main_arg3 (V0 : Valuation τ sig (Elt F)) : val0 V0 (no_index (Proc.devRef .tc main_arg3)) = V0 (Proc.devRef .tc main_arg3) := rfl
theorem val0_main_arg4 (V0 : Valuation τ sig (Elt F)) : val0 V0 (no_index (Proc.devRef .tc main_arg4)) = V0 (Proc.devRef .tc main_arg4) := rfl

/-- The contents after window 1. -/
def val1 (V0 : Valuation τ sig (Elt F)) : Valuation τ sig (Elt F) := after win1 (val0 V0)
/-- The buffers window 1 writes. -/
abbrev win1W : List (Ref sig .tc) := [main_v0, main_v1, main_v2, main_v3, main_v4, main_v5, main_v6, main_v7, main_v8, main_v9, main_v10, main_v11, main_v12, main_v13, main_v14, main_v15, main_v16, main_v17, main_v18, main_cst, main_call0_v0, main_call0_v1, main_v19, main_v20, main_v21, main_v22, main_v23, main_v24]
theorem win1_writes : (win1 : List (HloOp τ sig (Elt F))).Forall fun op => op.writes ⊆ (win1W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_⟩ <;>
    simp only [nullary_writes, unary_writes, binary_writes, ternary_writes, quaternary_writes, reshape_writes, Finset.singleton_subset_iff, List.mem_toFinset] <;>
    exact List.mem_map_of_mem (by decide)
/-- A buffer window 1 does not write keeps its contents. -/
theorem val1_keep (V0 : Valuation τ sig (Elt F)) (r : Ref sig .tc) (h : r ∉ win1W) :
    val1 V0 (Proc.devRef .tc r) = val0 V0 (Proc.devRef .tc r) :=
  after_of_writes_sub win1 _ win1_writes h
theorem val1_main_arg0 (V0 : Valuation τ sig (Elt F)) : val1 V0 (no_index (Proc.devRef .tc main_arg0)) = V0 (Proc.devRef .tc main_arg0) :=
  (val1_keep V0 main_arg0 (by decide)).trans (val0_main_arg0 V0)
theorem val1_main_arg1 (V0 : Valuation τ sig (Elt F)) : val1 V0 (no_index (Proc.devRef .tc main_arg1)) = V0 (Proc.devRef .tc main_arg1) :=
  (val1_keep V0 main_arg1 (by decide)).trans (val0_main_arg1 V0)
theorem val1_main_arg2 (V0 : Valuation τ sig (Elt F)) : val1 V0 (no_index (Proc.devRef .tc main_arg2)) = V0 (Proc.devRef .tc main_arg2) :=
  (val1_keep V0 main_arg2 (by decide)).trans (val0_main_arg2 V0)
theorem val1_main_arg3 (V0 : Valuation τ sig (Elt F)) : val1 V0 (no_index (Proc.devRef .tc main_arg3)) = V0 (Proc.devRef .tc main_arg3) :=
  (val1_keep V0 main_arg3 (by decide)).trans (val0_main_arg3 V0)
theorem val1_main_arg4 (V0 : Valuation τ sig (Elt F)) : val1 V0 (no_index (Proc.devRef .tc main_arg4)) = V0 (Proc.devRef .tc main_arg4) :=
  (val1_keep V0 main_arg4 (by decide)).trans (val0_main_arg4 V0)
set_option maxHeartbeats 2000000 in
theorem val1_main_v0 (V0 : Valuation τ sig (Elt F)) : val1 V0 (no_index (Proc.devRef .tc main_v0)) = boxes (V0 (Proc.devRef .tc main_arg3)) := by
  unfold val1
  simp only [win1, TRef.nullary, TRef.unary, TRef.binary, TRef.ternary, TRef.quaternary, TRef.toBuf, TRef.ofBuf, cast_eq]
  after_results_simp
  simp only [val0_main_arg0, val0_main_arg1, val0_main_arg3, val0_main_arg4] <;> rfl
set_option maxHeartbeats 2000000 in
theorem val1_main_v1 (V0 : Valuation τ sig (Elt F)) : val1 V0 (no_index (Proc.devRef .tc main_v1)) = dets (V0 (Proc.devRef .tc main_arg0)) := by
  unfold val1
  simp only [win1, TRef.nullary, TRef.unary, TRef.binary, TRef.ternary, TRef.quaternary, TRef.toBuf, TRef.ofBuf, cast_eq]
  after_results_simp
  simp only [val0_main_arg0, val0_main_arg1, val0_main_arg3, val0_main_arg4] <;> rfl
set_option maxHeartbeats 2000000 in
theorem val1_main_v2 (V0 : Valuation τ sig (Elt F)) : val1 V0 (no_index (Proc.devRef .tc main_v2)) = scores (V0 (Proc.devRef .tc main_arg1)) := by
  unfold val1
  simp only [win1, TRef.nullary, TRef.unary, TRef.binary, TRef.ternary, TRef.quaternary, TRef.toBuf, TRef.ofBuf, cast_eq]
  after_results_simp
  simp only [val0_main_arg0, val0_main_arg1, val0_main_arg3, val0_main_arg4] <;> rfl
set_option maxHeartbeats 2000000 in
theorem val1_main_v3 (V0 : Valuation τ sig (Elt F)) : val1 V0 (no_index (Proc.devRef .tc main_v3)) = labels (V0 (Proc.devRef .tc main_arg4)) := by
  unfold val1
  simp only [win1, TRef.nullary, TRef.unary, TRef.binary, TRef.ternary, TRef.quaternary, TRef.toBuf, TRef.ofBuf, cast_eq]
  after_results_simp
  simp only [val0_main_arg0, val0_main_arg1, val0_main_arg3, val0_main_arg4] <;> rfl
set_option maxHeartbeats 2000000 in
theorem val1_main_v24 (V0 : Valuation τ sig (Elt F)) : val1 V0 (no_index (Proc.devRef .tc main_v24)) = inter (V0 (Proc.devRef .tc main_arg0)) (V0 (Proc.devRef .tc main_arg3)) := by
  unfold val1
  simp only [win1, TRef.nullary, TRef.unary, TRef.binary, TRef.ternary, TRef.quaternary, TRef.toBuf, TRef.ofBuf, cast_eq]
  after_results_simp
  simp only [val0_main_arg0, val0_main_arg1, val0_main_arg3, val0_main_arg4] <;> rfl

/-- The contents after window 2. -/
def val2 (V0 : Valuation τ sig (Elt F)) : Valuation τ sig (Elt F) := after win2 (val1 V0)
/-- The buffers window 2 writes. -/
abbrev win2W : List (Ref sig .tc) := [main_v25, main_v26, main_v27, main_v28, main_v29, main_v30, main_v31, main_v32, main_v33, main_v34, main_v35, main_v36, main_v37, main_v38, main_v39, main_v40, main_v41, main_v42, main_v43, main_v44, main_v45, main_v46, main_v47, main_v48, main_v49, main_v50, main_v51, main_v52, main_v53]
theorem win2_writes : (win2 : List (HloOp τ sig (Elt F))).Forall fun op => op.writes ⊆ (win2W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_⟩ <;>
    simp only [nullary_writes, unary_writes, binary_writes, ternary_writes, quaternary_writes, reshape_writes, Finset.singleton_subset_iff, List.mem_toFinset] <;>
    exact List.mem_map_of_mem (by decide)
/-- A buffer window 2 does not write keeps its contents. -/
theorem val2_keep (V0 : Valuation τ sig (Elt F)) (r : Ref sig .tc) (h : r ∉ win2W) :
    val2 V0 (Proc.devRef .tc r) = val1 V0 (Proc.devRef .tc r) :=
  after_of_writes_sub win2 _ win2_writes h
theorem val2_main_arg0 (V0 : Valuation τ sig (Elt F)) : val2 V0 (no_index (Proc.devRef .tc main_arg0)) = V0 (Proc.devRef .tc main_arg0) :=
  (val2_keep V0 main_arg0 (by decide)).trans (val1_main_arg0 V0)
theorem val2_main_arg1 (V0 : Valuation τ sig (Elt F)) : val2 V0 (no_index (Proc.devRef .tc main_arg1)) = V0 (Proc.devRef .tc main_arg1) :=
  (val2_keep V0 main_arg1 (by decide)).trans (val1_main_arg1 V0)
theorem val2_main_arg2 (V0 : Valuation τ sig (Elt F)) : val2 V0 (no_index (Proc.devRef .tc main_arg2)) = V0 (Proc.devRef .tc main_arg2) :=
  (val2_keep V0 main_arg2 (by decide)).trans (val1_main_arg2 V0)
theorem val2_main_arg3 (V0 : Valuation τ sig (Elt F)) : val2 V0 (no_index (Proc.devRef .tc main_arg3)) = V0 (Proc.devRef .tc main_arg3) :=
  (val2_keep V0 main_arg3 (by decide)).trans (val1_main_arg3 V0)
theorem val2_main_arg4 (V0 : Valuation τ sig (Elt F)) : val2 V0 (no_index (Proc.devRef .tc main_arg4)) = V0 (Proc.devRef .tc main_arg4) :=
  (val2_keep V0 main_arg4 (by decide)).trans (val1_main_arg4 V0)
theorem val2_main_v0 (V0 : Valuation τ sig (Elt F)) : val2 V0 (no_index (Proc.devRef .tc main_v0)) = boxes (V0 (Proc.devRef .tc main_arg3)) :=
  (val2_keep V0 main_v0 (by decide)).trans (val1_main_v0 V0)
theorem val2_main_v1 (V0 : Valuation τ sig (Elt F)) : val2 V0 (no_index (Proc.devRef .tc main_v1)) = dets (V0 (Proc.devRef .tc main_arg0)) :=
  (val2_keep V0 main_v1 (by decide)).trans (val1_main_v1 V0)
theorem val2_main_v2 (V0 : Valuation τ sig (Elt F)) : val2 V0 (no_index (Proc.devRef .tc main_v2)) = scores (V0 (Proc.devRef .tc main_arg1)) :=
  (val2_keep V0 main_v2 (by decide)).trans (val1_main_v2 V0)
theorem val2_main_v3 (V0 : Valuation τ sig (Elt F)) : val2 V0 (no_index (Proc.devRef .tc main_v3)) = labels (V0 (Proc.devRef .tc main_arg4)) :=
  (val2_keep V0 main_v3 (by decide)).trans (val1_main_v3 V0)
set_option maxHeartbeats 2000000 in
theorem val2_main_v53 (V0 : Valuation τ sig (Elt F)) : val2 V0 (no_index (Proc.devRef .tc main_v53)) = overlap (V0 (Proc.devRef .tc main_arg0)) (V0 (Proc.devRef .tc main_arg3)) := by
  unfold val2
  simp only [win2]
  after_results_simp
  simp only [val1_main_v0, val1_main_v1, val1_main_v2, val1_main_v3, val1_main_v24] <;> rfl

/-- The contents after window 3. -/
def val3 (V0 : Valuation τ sig (Elt F)) : Valuation τ sig (Elt F) := after win3 (val2 V0)
/-- The buffers window 3 writes. -/
abbrev win3W : List (Ref sig .tc) := [main_cst_0, main_v54, main_call1_v0, main_call1_cst, main_call1_c, main_call1_v1_0, main_v55, main_call2_v0, main_call2_cst, main_call2_c, main_call2_v1_0, main_v56, main_v57]
theorem win3_writes : (win3 : List (HloOp τ sig (Elt F))).Forall fun op => op.writes ⊆ (win3W.map (Proc.devRef (τ := τ) .tc)).toFinset := by
  simp only [List.Forall]
  refine ⟨?_, ?_, ?_, ?_, ?_, ?_, ?_, ?_, ?_, ?_, ?_, ?_, ?_⟩ <;>
    simp only [nullary_writes, unary_writes, binary_writes, ternary_writes, quaternary_writes, reshape_writes, Finset.singleton_subset_iff, List.mem_toFinset] <;>
    exact List.mem_map_of_mem (by decide)
/-- A buffer window 3 does not write keeps its contents. -/
theorem val3_keep (V0 : Valuation τ sig (Elt F)) (r : Ref sig .tc) (h : r ∉ win3W) :
    val3 V0 (Proc.devRef .tc r) = val2 V0 (Proc.devRef .tc r) :=
  after_of_writes_sub win3 _ win3_writes h
theorem val3_main_arg0 (V0 : Valuation τ sig (Elt F)) : val3 V0 (no_index (Proc.devRef .tc main_arg0)) = V0 (Proc.devRef .tc main_arg0) :=
  (val3_keep V0 main_arg0 (by decide)).trans (val2_main_arg0 V0)
theorem val3_main_arg1 (V0 : Valuation τ sig (Elt F)) : val3 V0 (no_index (Proc.devRef .tc main_arg1)) = V0 (Proc.devRef .tc main_arg1) :=
  (val3_keep V0 main_arg1 (by decide)).trans (val2_main_arg1 V0)
theorem val3_main_arg2 (V0 : Valuation τ sig (Elt F)) : val3 V0 (no_index (Proc.devRef .tc main_arg2)) = V0 (Proc.devRef .tc main_arg2) :=
  (val3_keep V0 main_arg2 (by decide)).trans (val2_main_arg2 V0)
theorem val3_main_arg3 (V0 : Valuation τ sig (Elt F)) : val3 V0 (no_index (Proc.devRef .tc main_arg3)) = V0 (Proc.devRef .tc main_arg3) :=
  (val3_keep V0 main_arg3 (by decide)).trans (val2_main_arg3 V0)
theorem val3_main_arg4 (V0 : Valuation τ sig (Elt F)) : val3 V0 (no_index (Proc.devRef .tc main_arg4)) = V0 (Proc.devRef .tc main_arg4) :=
  (val3_keep V0 main_arg4 (by decide)).trans (val2_main_arg4 V0)
theorem val3_main_v0 (V0 : Valuation τ sig (Elt F)) : val3 V0 (no_index (Proc.devRef .tc main_v0)) = boxes (V0 (Proc.devRef .tc main_arg3)) :=
  (val3_keep V0 main_v0 (by decide)).trans (val2_main_v0 V0)
theorem val3_main_v1 (V0 : Valuation τ sig (Elt F)) : val3 V0 (no_index (Proc.devRef .tc main_v1)) = dets (V0 (Proc.devRef .tc main_arg0)) :=
  (val3_keep V0 main_v1 (by decide)).trans (val2_main_v1 V0)
theorem val3_main_v2 (V0 : Valuation τ sig (Elt F)) : val3 V0 (no_index (Proc.devRef .tc main_v2)) = scores (V0 (Proc.devRef .tc main_arg1)) :=
  (val3_keep V0 main_v2 (by decide)).trans (val2_main_v2 V0)
theorem val3_main_v3 (V0 : Valuation τ sig (Elt F)) : val3 V0 (no_index (Proc.devRef .tc main_v3)) = labels (V0 (Proc.devRef .tc main_arg4)) :=
  (val3_keep V0 main_v3 (by decide)).trans (val2_main_v3 V0)
set_option maxHeartbeats 2000000 in
theorem val3_main_v54 (V0 : Valuation τ sig (Elt F)) : val3 V0 (no_index (Proc.devRef .tc main_v54)) = bestOverlap (V0 (Proc.devRef .tc main_arg0)) (V0 (Proc.devRef .tc main_arg3)) := by
  unfold val3
  simp only [win3, TRef.nullary, TRef.unary, TRef.binary, TRef.ternary, TRef.quaternary, TRef.toBuf, TRef.ofBuf, cast_eq]
  after_results_simp
  simp only [val2_main_v0, val2_main_v1, val2_main_v2, val2_main_v3, val2_main_v53] <;> rfl
set_option maxHeartbeats 2000000 in
theorem val3_main_v55 (V0 : Valuation τ sig (Elt F)) : val3 V0 (no_index (Proc.devRef .tc main_v55)) = bestObj (V0 (Proc.devRef .tc main_arg0)) (V0 (Proc.devRef .tc main_arg3)) := by
  unfold val3
  simp only [win3, TRef.nullary, TRef.unary, TRef.binary, TRef.ternary, TRef.quaternary, TRef.toBuf, TRef.ofBuf, cast_eq]
  after_results_simp
  simp only [val2_main_v0, val2_main_v1, val2_main_v2, val2_main_v3, val2_main_v53] <;> rfl
set_option maxHeartbeats 2000000 in
theorem val3_main_v56 (V0 : Valuation τ sig (Elt F)) : val3 V0 (no_index (Proc.devRef .tc main_v56)) = bestDet (V0 (Proc.devRef .tc main_arg0)) (V0 (Proc.devRef .tc main_arg3)) := by
  unfold val3
  simp only [win3, TRef.nullary, TRef.unary, TRef.binary, TRef.ternary, TRef.quaternary, TRef.toBuf, TRef.ofBuf, cast_eq]
  after_results_simp
  simp only [val2_main_v0, val2_main_v1, val2_main_v2, val2_main_v3, val2_main_v53] <;> rfl
set_option maxHeartbeats 2000000 in
theorem val3_main_v57 (V0 : Valuation τ sig (Elt F)) : val3 V0 (no_index (Proc.devRef .tc main_v57)) = objIds (F := F) := by
  unfold val3
  simp only [win3, TRef.nullary, TRef.unary, TRef.binary, TRef.ternary, TRef.quaternary, TRef.toBuf, TRef.ofBuf, cast_eq]
  after_results_simp
  rfl

/-- The contents after window 4. -/
def val4 (V0 : Valuation τ sig (Elt F)) : Valuation τ sig (Elt F) := after win4 (val3 V0)
/-- The buffers window 4 writes. -/
abbrev win4W : List (Ref sig .tc) := [main_c, main_v58, main_v59, main_c_1, main_v60, main_v61, main_v62, main_v63, main_v64, main_c_2, main_v65, main_v66, main_c_3, main_v67, main_v68, main_v69, main_v70, main_cst_4, main_v71, main_v72]
theorem win4_writes : (win4 : List (HloOp τ sig (Elt F))).Forall fun op => op.writes ⊆ (win4W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_⟩ <;>
    simp only [nullary_writes, unary_writes, binary_writes, ternary_writes, quaternary_writes, reshape_writes, Finset.singleton_subset_iff, List.mem_toFinset] <;>
    exact List.mem_map_of_mem (by decide)
/-- A buffer window 4 does not write keeps its contents. -/
theorem val4_keep (V0 : Valuation τ sig (Elt F)) (r : Ref sig .tc) (h : r ∉ win4W) :
    val4 V0 (Proc.devRef .tc r) = val3 V0 (Proc.devRef .tc r) :=
  after_of_writes_sub win4 _ win4_writes h
theorem val4_main_arg0 (V0 : Valuation τ sig (Elt F)) : val4 V0 (no_index (Proc.devRef .tc main_arg0)) = V0 (Proc.devRef .tc main_arg0) :=
  (val4_keep V0 main_arg0 (by decide)).trans (val3_main_arg0 V0)
theorem val4_main_arg1 (V0 : Valuation τ sig (Elt F)) : val4 V0 (no_index (Proc.devRef .tc main_arg1)) = V0 (Proc.devRef .tc main_arg1) :=
  (val4_keep V0 main_arg1 (by decide)).trans (val3_main_arg1 V0)
theorem val4_main_arg2 (V0 : Valuation τ sig (Elt F)) : val4 V0 (no_index (Proc.devRef .tc main_arg2)) = V0 (Proc.devRef .tc main_arg2) :=
  (val4_keep V0 main_arg2 (by decide)).trans (val3_main_arg2 V0)
theorem val4_main_arg3 (V0 : Valuation τ sig (Elt F)) : val4 V0 (no_index (Proc.devRef .tc main_arg3)) = V0 (Proc.devRef .tc main_arg3) :=
  (val4_keep V0 main_arg3 (by decide)).trans (val3_main_arg3 V0)
theorem val4_main_arg4 (V0 : Valuation τ sig (Elt F)) : val4 V0 (no_index (Proc.devRef .tc main_arg4)) = V0 (Proc.devRef .tc main_arg4) :=
  (val4_keep V0 main_arg4 (by decide)).trans (val3_main_arg4 V0)
theorem val4_main_v0 (V0 : Valuation τ sig (Elt F)) : val4 V0 (no_index (Proc.devRef .tc main_v0)) = boxes (V0 (Proc.devRef .tc main_arg3)) :=
  (val4_keep V0 main_v0 (by decide)).trans (val3_main_v0 V0)
theorem val4_main_v1 (V0 : Valuation τ sig (Elt F)) : val4 V0 (no_index (Proc.devRef .tc main_v1)) = dets (V0 (Proc.devRef .tc main_arg0)) :=
  (val4_keep V0 main_v1 (by decide)).trans (val3_main_v1 V0)
theorem val4_main_v2 (V0 : Valuation τ sig (Elt F)) : val4 V0 (no_index (Proc.devRef .tc main_v2)) = scores (V0 (Proc.devRef .tc main_arg1)) :=
  (val4_keep V0 main_v2 (by decide)).trans (val3_main_v2 V0)
theorem val4_main_v3 (V0 : Valuation τ sig (Elt F)) : val4 V0 (no_index (Proc.devRef .tc main_v3)) = labels (V0 (Proc.devRef .tc main_arg4)) :=
  (val4_keep V0 main_v3 (by decide)).trans (val3_main_v3 V0)
set_option maxHeartbeats 2000000 in
theorem val4_main_v64 (V0 : Valuation τ sig (Elt F)) : val4 V0 (no_index (Proc.devRef .tc main_v64)) = obj (V0 (Proc.devRef .tc main_arg0)) (V0 (Proc.devRef .tc main_arg3)) := by
  unfold val4
  simp only [win4]
  after_results_simp
  simp only [val3_main_v0, val3_main_v1, val3_main_v2, val3_main_v3, val3_main_v54, val3_main_v55, val3_main_v56, val3_main_v57] <;> rfl
set_option maxHeartbeats 2000000 in
theorem val4_main_v72 (V0 : Valuation τ sig (Elt F)) : val4 V0 (no_index (Proc.devRef .tc main_v72)) = ovd (V0 (Proc.devRef .tc main_arg0)) (V0 (Proc.devRef .tc main_arg3)) := by
  unfold val4
  simp only [win4]
  after_results_simp
  simp only [val3_main_v0, val3_main_v1, val3_main_v2, val3_main_v3, val3_main_v54, val3_main_v55, val3_main_v56, val3_main_v57] <;> rfl

/-- The contents after window 5. -/
def val5 (V0 : Valuation τ sig (Elt F)) : Valuation τ sig (Elt F) := after win5 (val4 V0)
/-- The buffers window 5 writes. -/
abbrev win5W : List (Ref sig .tc) := [main_c_5, main_v73, main_v74, main_c_6, main_v75, main_v76, main_v77, main_v78, main_v79, main_cst_7, main_v80, main_v81, main_c_8, main_call3_v0, main_call3_v1, main_v82, main_c_9, main_v83, main_v84]
theorem win5_writes : (win5 : List (HloOp τ sig (Elt F))).Forall fun op => op.writes ⊆ (win5W.map (Proc.devRef (τ := τ) .tc)).toFinset := by
  simp only [List.Forall]
  refine ⟨?_, ?_, ?_, ?_, ?_, ?_, ?_, ?_, ?_, ?_, ?_, ?_, ?_, ?_, ?_, ?_, ?_, ?_, ?_⟩ <;>
    simp only [nullary_writes, unary_writes, binary_writes, ternary_writes, quaternary_writes, reshape_writes, Finset.singleton_subset_iff, List.mem_toFinset] <;>
    exact List.mem_map_of_mem (by decide)
/-- A buffer window 5 does not write keeps its contents. -/
theorem val5_keep (V0 : Valuation τ sig (Elt F)) (r : Ref sig .tc) (h : r ∉ win5W) :
    val5 V0 (Proc.devRef .tc r) = val4 V0 (Proc.devRef .tc r) :=
  after_of_writes_sub win5 _ win5_writes h
theorem val5_main_arg0 (V0 : Valuation τ sig (Elt F)) : val5 V0 (no_index (Proc.devRef .tc main_arg0)) = V0 (Proc.devRef .tc main_arg0) :=
  (val5_keep V0 main_arg0 (by decide)).trans (val4_main_arg0 V0)
theorem val5_main_arg1 (V0 : Valuation τ sig (Elt F)) : val5 V0 (no_index (Proc.devRef .tc main_arg1)) = V0 (Proc.devRef .tc main_arg1) :=
  (val5_keep V0 main_arg1 (by decide)).trans (val4_main_arg1 V0)
theorem val5_main_arg2 (V0 : Valuation τ sig (Elt F)) : val5 V0 (no_index (Proc.devRef .tc main_arg2)) = V0 (Proc.devRef .tc main_arg2) :=
  (val5_keep V0 main_arg2 (by decide)).trans (val4_main_arg2 V0)
theorem val5_main_arg3 (V0 : Valuation τ sig (Elt F)) : val5 V0 (no_index (Proc.devRef .tc main_arg3)) = V0 (Proc.devRef .tc main_arg3) :=
  (val5_keep V0 main_arg3 (by decide)).trans (val4_main_arg3 V0)
theorem val5_main_arg4 (V0 : Valuation τ sig (Elt F)) : val5 V0 (no_index (Proc.devRef .tc main_arg4)) = V0 (Proc.devRef .tc main_arg4) :=
  (val5_keep V0 main_arg4 (by decide)).trans (val4_main_arg4 V0)
theorem val5_main_v0 (V0 : Valuation τ sig (Elt F)) : val5 V0 (no_index (Proc.devRef .tc main_v0)) = boxes (V0 (Proc.devRef .tc main_arg3)) :=
  (val5_keep V0 main_v0 (by decide)).trans (val4_main_v0 V0)
theorem val5_main_v1 (V0 : Valuation τ sig (Elt F)) : val5 V0 (no_index (Proc.devRef .tc main_v1)) = dets (V0 (Proc.devRef .tc main_arg0)) :=
  (val5_keep V0 main_v1 (by decide)).trans (val4_main_v1 V0)
theorem val5_main_v2 (V0 : Valuation τ sig (Elt F)) : val5 V0 (no_index (Proc.devRef .tc main_v2)) = scores (V0 (Proc.devRef .tc main_arg1)) :=
  (val5_keep V0 main_v2 (by decide)).trans (val4_main_v2 V0)
theorem val5_main_v64 (V0 : Valuation τ sig (Elt F)) : val5 V0 (no_index (Proc.devRef .tc main_v64)) = obj (V0 (Proc.devRef .tc main_arg0)) (V0 (Proc.devRef .tc main_arg3)) :=
  (val5_keep V0 main_v64 (by decide)).trans (val4_main_v64 V0)
set_option maxHeartbeats 2000000 in
theorem val5_main_v84 (V0 : Valuation τ sig (Elt F)) : val5 V0 (no_index (Proc.devRef .tc main_v84)) = pos (V0 (Proc.devRef .tc main_arg0)) (V0 (Proc.devRef .tc main_arg3)) (V0 (Proc.devRef .tc main_arg4)) := by
  unfold val5
  simp only [win5, TRef.nullary, TRef.unary, TRef.binary, TRef.ternary, TRef.quaternary, TRef.toBuf, TRef.ofBuf, cast_eq]
  after_results_simp
  simp only [val4_main_v0, val4_main_v1, val4_main_v2, val4_main_v3, val4_main_v64, val4_main_v72] <;> rfl

/-- The contents after window 6. -/
def val6 (V0 : Valuation τ sig (Elt F)) : Valuation τ sig (Elt F) := after win6 (val5 V0)
/-- The buffers window 6 writes. -/
abbrev win6W : List (Ref sig .tc) := [main_c_10, main_v85, main_v86, main_c_11, main_v87, main_v88, main_v89, main_v90, main_v91, main_v92, main_cst_12, main_v93, main_v94, main_v95, main_v96, main_v97, main_v98, main_cst_13, main_v99, main_cst_14, main_v100, main_v101, main_cst_15]
theorem win6_writes : (win6 : List (HloOp τ sig (Elt F))).Forall fun op => op.writes ⊆ (win6W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_⟩ <;>
    simp only [nullary_writes, unary_writes, binary_writes, ternary_writes, quaternary_writes, reshape_writes, Finset.singleton_subset_iff, List.mem_toFinset] <;>
    exact List.mem_map_of_mem (by decide)
/-- A buffer window 6 does not write keeps its contents. -/
theorem val6_keep (V0 : Valuation τ sig (Elt F)) (r : Ref sig .tc) (h : r ∉ win6W) :
    val6 V0 (Proc.devRef .tc r) = val5 V0 (Proc.devRef .tc r) :=
  after_of_writes_sub win6 _ win6_writes h
theorem val6_main_arg0 (V0 : Valuation τ sig (Elt F)) : val6 V0 (no_index (Proc.devRef .tc main_arg0)) = V0 (Proc.devRef .tc main_arg0) :=
  (val6_keep V0 main_arg0 (by decide)).trans (val5_main_arg0 V0)
theorem val6_main_arg1 (V0 : Valuation τ sig (Elt F)) : val6 V0 (no_index (Proc.devRef .tc main_arg1)) = V0 (Proc.devRef .tc main_arg1) :=
  (val6_keep V0 main_arg1 (by decide)).trans (val5_main_arg1 V0)
theorem val6_main_arg2 (V0 : Valuation τ sig (Elt F)) : val6 V0 (no_index (Proc.devRef .tc main_arg2)) = V0 (Proc.devRef .tc main_arg2) :=
  (val6_keep V0 main_arg2 (by decide)).trans (val5_main_arg2 V0)
theorem val6_main_arg3 (V0 : Valuation τ sig (Elt F)) : val6 V0 (no_index (Proc.devRef .tc main_arg3)) = V0 (Proc.devRef .tc main_arg3) :=
  (val6_keep V0 main_arg3 (by decide)).trans (val5_main_arg3 V0)
theorem val6_main_arg4 (V0 : Valuation τ sig (Elt F)) : val6 V0 (no_index (Proc.devRef .tc main_arg4)) = V0 (Proc.devRef .tc main_arg4) :=
  (val6_keep V0 main_arg4 (by decide)).trans (val5_main_arg4 V0)
theorem val6_main_v2 (V0 : Valuation τ sig (Elt F)) : val6 V0 (no_index (Proc.devRef .tc main_v2)) = scores (V0 (Proc.devRef .tc main_arg1)) :=
  (val6_keep V0 main_v2 (by decide)).trans (val5_main_v2 V0)
theorem val6_main_v84 (V0 : Valuation τ sig (Elt F)) : val6 V0 (no_index (Proc.devRef .tc main_v84)) = pos (V0 (Proc.devRef .tc main_arg0)) (V0 (Proc.devRef .tc main_arg3)) (V0 (Proc.devRef .tc main_arg4)) :=
  (val6_keep V0 main_v84 (by decide)).trans (val5_main_v84 V0)
set_option maxHeartbeats 2000000 in
theorem val6_main_v92 (V0 : Valuation τ sig (Elt F)) : val6 V0 (no_index (Proc.devRef .tc main_v92)) = posf (V0 (Proc.devRef .tc main_arg0)) (V0 (Proc.devRef .tc main_arg3)) (V0 (Proc.devRef .tc main_arg4)) := by
  unfold val6
  simp only [win6]
  after_results_simp
  simp only [val5_main_v0, val5_main_v1, val5_main_v2, val5_main_v64, val5_main_v84] <;> rfl
set_option maxHeartbeats 2000000 in
theorem val6_main_v93 (V0 : Valuation τ sig (Elt F)) : val6 V0 (no_index (Proc.devRef .tc main_v93)) = nPos (V0 (Proc.devRef .tc main_arg0)) (V0 (Proc.devRef .tc main_arg3)) (V0 (Proc.devRef .tc main_arg4)) := by
  unfold val6
  simp only [win6]
  after_results_simp
  simp only [val5_main_v0, val5_main_v1, val5_main_v2, val5_main_v64, val5_main_v84] <;> rfl
set_option maxHeartbeats 2000000 in
theorem val6_main_v101 (V0 : Valuation τ sig (Elt F)) : val6 V0 (no_index (Proc.devRef .tc main_v101)) = locLoss (V0 (Proc.devRef .tc main_arg0)) (V0 (Proc.devRef .tc main_arg3)) (V0 (Proc.devRef .tc main_arg4)) := by
  unfold val6
  simp only [win6]
  after_results_simp
  simp only [val5_main_v0, val5_main_v1, val5_main_v2, val5_main_v64, val5_main_v84] <;> rfl
set_option maxHeartbeats 2000000 in
theorem val6_main_cst_15 (V0 : Valuation τ sig (Elt F)) : val6 V0 (no_index (Proc.devRef .tc main_cst_15)) = (constant S_ .f32 0x40400000#32) := by
  unfold val6
  simp only [win6]
  after_results_simp

/-- The contents after window 7. -/
def val7 (V0 : Valuation τ sig (Elt F)) : Valuation τ sig (Elt F) := after win7 (val6 V0)
/-- The buffers window 7 writes. -/
abbrev win7W : List (Ref sig .tc) := [main_v102, main_cst_16, main_v103, main_v104, main_v105, main_cst_17, main_v106, main_cst_18, main_call4_v0, main_call4_v1, main_v107, main_v108, main_v109, main_v110, main_v111, main_v112, main_v113, main_v114, main_v115, main_cst_19, main_v116, main_v117, main_v118, main_cst_20, main_v119, main_v120]
theorem win7_writes : (win7 : List (HloOp τ sig (Elt F))).Forall fun op => op.writes ⊆ (win7W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_⟩ <;>
    simp only [nullary_writes, unary_writes, binary_writes, ternary_writes, quaternary_writes, reshape_writes, Finset.singleton_subset_iff, List.mem_toFinset] <;>
    exact List.mem_map_of_mem (by decide)
/-- A buffer window 7 does not write keeps its contents. -/
theorem val7_keep (V0 : Valuation τ sig (Elt F)) (r : Ref sig .tc) (h : r ∉ win7W) :
    val7 V0 (Proc.devRef .tc r) = val6 V0 (Proc.devRef .tc r) :=
  after_of_writes_sub win7 _ win7_writes h
theorem val7_main_arg0 (V0 : Valuation τ sig (Elt F)) : val7 V0 (no_index (Proc.devRef .tc main_arg0)) = V0 (Proc.devRef .tc main_arg0) :=
  (val7_keep V0 main_arg0 (by decide)).trans (val6_main_arg0 V0)
theorem val7_main_arg1 (V0 : Valuation τ sig (Elt F)) : val7 V0 (no_index (Proc.devRef .tc main_arg1)) = V0 (Proc.devRef .tc main_arg1) :=
  (val7_keep V0 main_arg1 (by decide)).trans (val6_main_arg1 V0)
theorem val7_main_arg2 (V0 : Valuation τ sig (Elt F)) : val7 V0 (no_index (Proc.devRef .tc main_arg2)) = V0 (Proc.devRef .tc main_arg2) :=
  (val7_keep V0 main_arg2 (by decide)).trans (val6_main_arg2 V0)
theorem val7_main_arg3 (V0 : Valuation τ sig (Elt F)) : val7 V0 (no_index (Proc.devRef .tc main_arg3)) = V0 (Proc.devRef .tc main_arg3) :=
  (val7_keep V0 main_arg3 (by decide)).trans (val6_main_arg3 V0)
theorem val7_main_arg4 (V0 : Valuation τ sig (Elt F)) : val7 V0 (no_index (Proc.devRef .tc main_arg4)) = V0 (Proc.devRef .tc main_arg4) :=
  (val7_keep V0 main_arg4 (by decide)).trans (val6_main_arg4 V0)
set_option maxHeartbeats 2000000 in
theorem val7_main_v120 (V0 : Valuation τ sig (Elt F)) : val7 V0 (no_index (Proc.devRef .tc main_v120)) = result (V0 (Proc.devRef .tc main_arg0)) (V0 (Proc.devRef .tc main_arg1)) (V0 (Proc.devRef .tc main_arg3)) (V0 (Proc.devRef .tc main_arg4)) := by
  unfold val7
  simp only [win7, TRef.nullary, TRef.unary, TRef.binary, TRef.ternary, TRef.quaternary, TRef.toBuf, TRef.ofBuf, cast_eq]
  after_results_simp
  simp only [val6_main_v2, val6_main_v84, val6_main_v92, val6_main_v93, val6_main_v101, val6_main_cst_15] <;> rfl

theorem after_ops (V0 : Valuation τ sig (Elt F)) : after ops V0 = val7 V0 := by
  simp only [ops, ops0, ops1, ops2, after_append]
  rfl

/-- Every execution ends with the result's buffer at `result` of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v120) = result (m ((c.tc : Thread nD τ).loc main_arg0)) (m ((c.tc : Thread nD τ).loc main_arg1)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v120).trans ((congrFun (after_ops (launchContents m c)) (Proc.devRef .tc main_v120)).trans (val7_main_v120 (launchContents m c))),
      (h c main_arg0).trans ((congrFun (after_ops (launchContents m c)) (Proc.devRef .tc main_arg0)).trans (val7_main_arg0 (launchContents m c))),
      (h c main_arg1).trans ((congrFun (after_ops (launchContents m c)) (Proc.devRef .tc main_arg1)).trans (val7_main_arg1 (launchContents m c))),
      (h c main_arg2).trans ((congrFun (after_ops (launchContents m c)) (Proc.devRef .tc main_arg2)).trans (val7_main_arg2 (launchContents m c))),
      (h c main_arg3).trans ((congrFun (after_ops (launchContents m c)) (Proc.devRef .tc main_arg3)).trans (val7_main_arg3 (launchContents m c))),
      (h c main_arg4).trans ((congrFun (after_ops (launchContents m c)) (Proc.devRef .tc main_arg4)).trans (val7_main_arg4 (launchContents m c)))⟩)
    (run_seq scopedRefs_eq scopedSems_eq defs main (fun _ => ops) main_eq (fun _ => ops_sub) m ρ fun _ => ops_fresh)

end Cert.ReferenceIdeal.Value

end
-- ==== Proof.Overlap.lean ====
/- The kernel's and the reference's table of overlaps are one array: both divide the area of the intersection by
   the area of the union, entry by entry. -/
module

public import proofs.«01_k».proof.Proof.KernelIdealRun
public import proofs.«01_k».proof.Proof.ReferenceStages
public import Idealize.ShloMosaic.Lib.Pointwise

@[expose] public section

set_option maxRecDepth 16384

noncomputable section

namespace Cert.Matching

open Idealize.ShloMosaic Cert.KernelIdeal.Gen
open Cert.KernelIdeal (S1x5000x4 S1x5000 S1x64x4 S1x64 S64x5000 S5000 S64)

variable (x0 : FVec Ideal S1x5000x4 .f32) (x2 : FVec Ideal S1x64x4 .f32)

/-- One entry of the table of overlaps, on both sides. -/
theorem overlaps_apply (o : Fin 64) (d : Fin 5000) :
    Cert.KernelIdeal.Run.overlaps (F := Ideal) x0 x2 (ix2 o d) = Cert.ReferenceIdeal.Value.overlap (F := Ideal) x0 x2 (ix2 o d) := by
  pointwise [Cert.KernelIdeal.Run.overlaps, k0_pay11, k0_pay10, k0_pay8, Cert.ReferenceIdeal.Value.overlap, Cert.ReferenceIdeal.Value.overlapOf,
    Cert.ReferenceIdeal.Value.inter, Cert.ReferenceIdeal.Value.interOf, Cert.ReferenceIdeal.Value.sidesOf, Cert.ReferenceIdeal.Value.boxes,
    Cert.ReferenceIdeal.Value.dets]
  pointwise [id_eq]
  simp only [max_comm (0 : EReal)]

/-- The two tables are one array. -/
theorem overlaps_eq :
    Cert.KernelIdeal.Run.overlaps (F := Ideal) x0 x2 = Cert.ReferenceIdeal.Value.overlap (F := Ideal) x0 x2 := by
  funext j
  rw [ValueIdx.eq_ix2 j]
  exact overlaps_apply x0 x2 (j 0) (j 1)

end Cert.Matching

end
-- ==== Proof.Choice.lean ====
/- First positions of a largest value, and the folds by which the two programs find them. Nothing here knows the
   programs: the kernel's form is a minimum of positions over the largest value, the reference's a fold that carries
   the best value and its position. -/
module

public import proofs.«01_k».proof.Proof.Gen.ReferenceIdeal
public import Idealize.ShloMosaic.Lib.Pointwise
public import Idealize.ShloMosaic.Lib.SortNet.Extract
public import Idealize.ShloMosaic.Lib.StableHlo.Predicate

@[expose] public section

noncomputable section

namespace Cert.Matching

open Idealize.ShloMosaic

/-- `i` is the first position at which `f` is largest. -/
def IsFirstMax {n : ℕ} (f : Fin n → EReal) (i : Fin n) : Prop := (∀ j, f j ≤ f i) ∧ ∀ j, j < i → f j < f i

theorem exists_isFirstMax {n : ℕ} [NeZero n] (f : Fin n → EReal) : ∃ i, IsFirstMax f i := by
  classical
  obtain ⟨i₀, h₀⟩ := Finite.exists_max f
  obtain ⟨i, hi, hmin⟩ := Finset.exists_minimal (s := Finset.univ.filter fun i => ∀ j, f j ≤ f i) ⟨i₀, by simpa using h₀⟩
  have hi' : ∀ j, f j ≤ f i := by simpa using hi
  refine ⟨i, hi', fun j hj => lt_of_le_of_ne (hi' j) fun e => ?_⟩
  exact absurd (hmin (y := j) (by simpa [e] using hi') hj.le) (not_le.2 hj)

/-- The first position at which `f` is largest. -/
def firstMax {n : ℕ} [NeZero n] (f : Fin n → EReal) : Fin n := (exists_isFirstMax f).choose

theorem firstMax_spec {n : ℕ} [NeZero n] (f : Fin n → EReal) : IsFirstMax f (firstMax f) := (exists_isFirstMax f).choose_spec

/-- The maximum of all values, from minus infinity, is the value there. -/
theorem fold_max_eq {n : ℕ} [NeZero n] (f : Fin n → EReal) : Finset.univ.fold max ⊥ f = f (firstMax f) :=
  le_antisymm ((Finset.fold_max_le _).2 ⟨bot_le, fun j _ => (firstMax_spec f).1 j⟩)
    ((Finset.le_fold_max _).2 (.inr ⟨_, Finset.mem_univ _, le_rfl⟩))

/-! ## Words -/

/-- A small number's word, read signed, is the number. -/
theorem toInt_small {n : ℕ} (h : n < 2 ^ 31) : (BitVec.ofNat 32 n).toInt = n := StableHlo.Predicate.toInt_ofNat_small n h

theorem ofNat_inj {a b : ℕ} (ha : a < 2 ^ 31) (hb : b < 2 ^ 31) : BitVec.ofNat 32 a = BitVec.ofNat 32 b ↔ a = b := by
  refine ⟨fun h => ?_, fun h => h ▸ rfl⟩
  have := congrArg BitVec.toInt h
  rw [toInt_small ha, toInt_small hb] at this
  omega

theorem toInt_fold_minsi {n : ℕ} (b : BitVec 32) (f : Fin n → BitVec 32) :
    (Finset.univ.fold IntOp.minsi b f).toInt = Finset.univ.fold min b.toInt fun k => (f k).toInt :=
  (Finset.fold_hom (op := IntOp.minsi) (op' := min) (m := BitVec.toInt) fun x y => SortNet.toInt_minsi x y).symm

theorem toInt_fold_maxsi {n : ℕ} (b : BitVec 32) (f : Fin n → BitVec 32) :
    (Finset.univ.fold IntOp.maxsi b f).toInt = Finset.univ.fold max b.toInt fun k => (f k).toInt :=
  (Finset.fold_hom (op := IntOp.maxsi) (op' := max) (m := BitVec.toInt) fun x y => SortNet.toInt_maxsi x y).symm

/-- The smallest position at which the largest value stands, found as a minimum of words. -/
theorem fold_minsi_eq {n : ℕ} [NeZero n] (hn : n < 2 ^ 31) (f : Fin n → EReal) :
    Finset.univ.fold IntOp.minsi 2147483647#32 (fun k => if f k = Finset.univ.fold max ⊥ f then BitVec.ofNat 32 k.val else BitVec.ofNat 32 n)
      = BitVec.ofNat 32 (firstMax f).val := by
  have hi := (firstMax f).isLt
  obtain ⟨hmax, hlt⟩ := firstMax_spec f
  apply BitVec.eq_of_toInt_eq
  rw [toInt_fold_minsi, fold_max_eq, toInt_small (n := (firstMax f).val) (by omega)]
  have e : (2147483647#32).toInt = 2147483647 := by decide
  refine le_antisymm ((Finset.fold_min_le _).2 (.inr ⟨firstMax f, Finset.mem_univ _, ?_⟩)) ((Finset.le_fold_min _).2 ⟨?_, fun k _ => ?_⟩)
  · rw [if_pos rfl, toInt_small (n := (firstMax f).val) (by omega)]
  · rw [e]; omega
  · have hk := k.isLt
    split
    · next h =>
      rw [toInt_small (n := k.val) (by omega)]
      have : ¬ k < firstMax f := fun hk' => absurd h (hlt k hk').ne
      have : (firstMax f).val ≤ k.val := not_lt.1 this
      omega
    · rw [toInt_small (n := n) (by omega)]; omega

/-! ## The fold that carries value and position -/

/-- A pair `q` is no better than `p`: its value is smaller, or the values agree and its position is not earlier. -/
def NoBetter (q p : EReal × BitVec 32) : Prop := q.1 < p.1 ∨ (q.1 = p.1 ∧ p.2.toInt ≤ q.2.toInt)

theorem NoBetter.refl (p : EReal × BitVec 32) : NoBetter p p := .inr ⟨rfl, le_rfl⟩

theorem NoBetter.trans {a b c : EReal × BitVec 32} (h : NoBetter a b) (h' : NoBetter b c) : NoBetter a c := by
  rcases h with h | ⟨h, hi⟩ <;> rcases h' with h' | ⟨h', hi'⟩
  · exact .inl (h.trans h')
  · exact .inl (h' ▸ h)
  · exact .inl (h ▸ h')
  · exact .inr ⟨h.trans h', hi'.trans hi⟩

/-- The reference's reducer returns the better of its two pairs. -/
theorem reducer_spec (p q : EReal × BitVec 32) (r : EReal × BitVec 32)
    (hr : Cert.ReferenceIdeal.reducer_argmax_f32_i32 (F := Ideal) p q = r) : (r = p ∨ r = q) ∧ NoBetter p r ∧ NoBetter q r := by
  subst hr
  obtain ⟨a, i⟩ := p
  obtain ⟨b, j⟩ := q
  simp only [Cert.ReferenceIdeal.reducer_argmax_f32_i32, Ideal.cmpf_def, Ideal.cmp, Scalar.select, IntOp.cmpi, IntOp.ori, IntOp.andi]
  rcases lt_trichotomy a b with h | h | h
  · have h1 : ¬ b < a := not_lt.2 h.le
    have h2 : a ≠ b := h.ne
    simp [h1, h2, NoBetter, h]
  · subst h
    by_cases hs : i.slt j
    · have : i.toInt < j.toInt := by simpa [BitVec.slt] using hs
      simp [hs, NoBetter, this.le]
    · have : j.toInt ≤ i.toInt := by simpa [BitVec.slt] using hs
      simp [hs, NoBetter, this]
  · simp [h, h.ne', NoBetter]

/-- The fold of it over a list: a pair that occurs, no worse than any. -/
theorem foldl_reducer (L : List (EReal × BitVec 32)) (p : EReal × BitVec 32) (r : EReal × BitVec 32)
    (hr : L.foldl (Cert.ReferenceIdeal.reducer_argmax_f32_i32 (F := Ideal)) p = r) :
    (r = p ∨ r ∈ L) ∧ NoBetter p r ∧ ∀ q ∈ L, NoBetter q r := by
  induction L generalizing p with
  | nil => subst hr; exact ⟨.inl rfl, .refl _, by simp⟩
  | cons q L ih =>
    rw [List.foldl_cons] at hr
    obtain ⟨hm, hp, hL⟩ := ih _ hr
    obtain ⟨hm', hp', hq'⟩ := reducer_spec p q _ rfl
    refine ⟨?_, hp'.trans hp, fun x hx => ?_⟩
    · rcases hm with hm | hm
      · rw [hm]; exact hm'.imp id fun h => by rw [h]; exact List.mem_cons_self
      · exact .inr (List.mem_cons_of_mem _ hm)
    · rcases List.mem_cons.1 hx with rfl | hx
      · exact hq'.trans hp
      · exact hL x hx

/-- The same over a list that holds each position with its value, from minus infinity at position zero: the position
    the fold ends with is the first one of a largest value. -/
theorem foldl_reducer_eq {n : ℕ} [NeZero n] (hn : n < 2 ^ 31) (f : Fin n → EReal) (L : List (EReal × BitVec 32))
    (hL : ∀ q, q ∈ L ↔ ∃ k : Fin n, q = (f k, BitVec.ofNat 32 k.val)) :
    (L.foldl (Cert.ReferenceIdeal.reducer_argmax_f32_i32 (F := Ideal)) (⊥, 0#32)).2 = BitVec.ofNat 32 (firstMax f).val := by
  obtain ⟨hm, -, hall⟩ := foldl_reducer L (⊥, 0#32) _ rfl
  set r := L.foldl (Cert.ReferenceIdeal.reducer_argmax_f32_i32 (F := Ideal)) (⊥, 0#32) with hr
  have hi := (firstMax f).isLt
  obtain ⟨hmax, hlt⟩ := firstMax_spec f
  have hbest : ∀ k : Fin n, NoBetter (f k, BitVec.ofNat 32 k.val) r := fun k => hall _ ((hL _).2 ⟨k, rfl⟩)
  -- the pair the fold ends with is one position's
  obtain ⟨k, hk⟩ : ∃ k : Fin n, r = (f k, BitVec.ofNat 32 k.val) := by
    rcases hm with hm | hm
    · refine ⟨0, ?_⟩
      rcases hbest 0 with h | ⟨h, -⟩
      · rw [hm] at h; exact absurd h not_lt_bot
      · rw [hm] at h ⊢; exact Prod.ext h.symm rfl
    · exact (hL r).1 hm
  have hkl := k.isLt
  rw [hk] at hbest ⊢
  suffices k = firstMax f by rw [this]
  rcases lt_trichotomy k (firstMax f) with h | h | h
  · rcases hbest (firstMax f) with h' | ⟨h', -⟩
    · exact absurd h' (not_lt.2 (hmax k))
    · exact absurd h' (hlt k h).ne'
  · exact h
  · rcases hbest (firstMax f) with h' | ⟨-, h'⟩
    · exact absurd h' (not_lt.2 (hmax k))
    · simp only at h'
      rw [toInt_small (n := k.val) (by omega), toInt_small (n := (firstMax f).val) (by omega)] at h'
      have : (firstMax f).val < k.val := h
      omega

/-! ## The last position sent to a place -/

/-- The last position that `g` sends to `d`, or `other` if it sends none there. -/
def lastOr {m n : ℕ} (g : Fin m → Fin n) (d : Fin n) (other : Fin m) : Fin m :=
  if h : (Finset.univ.filter fun o => g o = d).Nonempty then (Finset.univ.filter fun o => g o = d).max' h else other

theorem lastOr_of_hit {m n : ℕ} (g : Fin m → Fin n) (d : Fin n) (other o : Fin m) (ho : g o = d) (hlast : ∀ o', g o' = d → o' ≤ o) :
    lastOr g d other = o := by
  have hne : (Finset.univ.filter fun o => g o = d).Nonempty := ⟨o, by simpa using ho⟩
  unfold lastOr
  rw [dif_pos hne]
  exact le_antisymm (Finset.max'_le _ _ _ fun y hy => hlast y (by simpa using hy)) (Finset.le_max' _ _ (by simpa using ho))

theorem lastOr_of_miss {m n : ℕ} (g : Fin m → Fin n) (d : Fin n) (other : Fin m) (h : ∀ o, g o ≠ d) : lastOr g d other = other := by
  unfold lastOr
  rw [dif_neg]
  rintro ⟨o, ho⟩
  exact h o (by simpa using ho)

/-- Either nothing is sent to `d` or there is a last position sent there. -/
theorem miss_or_last {m n : ℕ} (g : Fin m → Fin n) (d : Fin n) :
    (∀ o, g o ≠ d) ∨ ∃ o, g o = d ∧ ∀ o', g o' = d → o' ≤ o := by
  by_cases h : (Finset.univ.filter fun o => g o = d).Nonempty
  · exact .inr ⟨_, (Finset.mem_filter.1 (Finset.max'_mem _ h)).2, fun o' ho' => Finset.le_max' _ o' (by simpa using ho')⟩
  · exact .inl fun o ho => h ⟨o, by simpa using ho⟩

/-- The kernel's form of it: the largest position sent to `d`, minus one if there is none. -/
def hitWord {m n : ℕ} (g : Fin m → Fin n) (d : Fin n) : BitVec 32 :=
  Finset.univ.fold IntOp.maxsi 2147483648#32 fun o =>
    Scalar.select (IntOp.cmpi .eq (BitVec.ofNat 32 (g o).val) (BitVec.ofNat 32 d.val)) (BitVec.ofNat 32 o.val) 4294967295#32

theorem select_eq {n : ℕ} {α : Type} (hn : n < 2 ^ 31) (a d : Fin n) (x y : α) :
    Scalar.select (IntOp.cmpi .eq (BitVec.ofNat 32 a.val) (BitVec.ofNat 32 d.val)) x y = if a = d then x else y := by
  have ha := a.isLt
  have hd := d.isLt
  have : (BitVec.ofNat 32 a.val = BitVec.ofNat 32 d.val) ↔ a = d := (ofNat_inj (by omega) (by omega)).trans Fin.ext_iff.symm
  by_cases h : a = d
  · subst h; simp [Scalar.select, IntOp.cmpi]
  · have hb : (BitVec.ofNat 32 a.val == BitVec.ofNat 32 d.val) = false := beq_eq_false_iff_ne.2 fun e => h (this.1 e)
    rw [if_neg h]
    simp [Scalar.select, IntOp.cmpi, hb]

theorem hitWord_toInt {m n : ℕ} (hn : n < 2 ^ 31) (g : Fin m → Fin n) (d : Fin n) :
    (hitWord g d).toInt = Finset.univ.fold max (-2147483648) fun o => if g o = d then (BitVec.ofNat 32 o.val).toInt else -1 := by
  unfold hitWord
  rw [toInt_fold_maxsi]
  congr 1
  funext o
  rw [select_eq hn]
  split <;> rfl

theorem hitWord_of_hit {m n : ℕ} (hm : m < 2 ^ 31) (hn : n < 2 ^ 31) (g : Fin m → Fin n) (d : Fin n) (o : Fin m) (ho : g o = d)
    (hlast : ∀ o', g o' = d → o' ≤ o) : hitWord g d = BitVec.ofNat 32 o.val := by
  have hol := o.isLt
  apply BitVec.eq_of_toInt_eq
  rw [hitWord_toInt hn, toInt_small (n := o.val) (by omega)]
  refine le_antisymm ((Finset.fold_max_le _).2 ⟨by omega, fun k _ => ?_⟩) ((Finset.le_fold_max _).2 (.inr ⟨o, Finset.mem_univ _, ?_⟩))
  · have hk := k.isLt
    split
    · next h =>
      rw [toInt_small (n := k.val) (by omega)]
      have : k.val ≤ o.val := hlast k h
      omega
    · omega
  · rw [if_pos ho, toInt_small (n := o.val) (by omega)]

theorem hitWord_of_miss {m n : ℕ} [NeZero m] (hn : n < 2 ^ 31) (g : Fin m → Fin n) (d : Fin n) (h : ∀ o, g o ≠ d) :
    (hitWord g d).toInt = -1 := by
  rw [hitWord_toInt hn]
  refine le_antisymm ((Finset.fold_max_le _).2 ⟨by omega, fun k _ => ?_⟩) ((Finset.le_fold_max _).2 (.inr ⟨0, Finset.mem_univ _, ?_⟩))
  · rw [if_neg (h k)]
  · rw [if_neg (h 0)]

/-- A choice by the sign of that word is a choice by whether anything is sent to `d`. -/
theorem select_hit {m n : ℕ} [NeZero m] {α : Type} (hm : m < 2 ^ 31) (hn : n < 2 ^ 31) (g : Fin m → Fin n) (d : Fin n) (x y : α) :
    Scalar.select (IntOp.cmpi .sge (hitWord g d) 0#32) x y = if ∃ o, g o = d then x else y := by
  rcases miss_or_last g d with h | ⟨o, ho, hlast⟩
  · rw [if_neg (by simpa using h)]
    have : ¬ (0#32).sle (hitWord g d) := by simp [BitVec.sle, hitWord_of_miss hn g d h]
    simp [Scalar.select, IntOp.cmpi, this]
  · rw [if_pos ⟨o, ho⟩, hitWord_of_hit hm hn g d o ho hlast]
    have hol := o.isLt
    have : (0#32).sle (BitVec.ofNat 32 o.val) := by
      simp only [BitVec.sle, decide_eq_true_eq]
      rw [toInt_small (n := o.val) (by omega)]; simp
    simp [Scalar.select, IntOp.cmpi, this]

/-- So choosing that word where it is not negative and another position elsewhere names `lastOr`. -/
theorem select_hitWord {m n : ℕ} [NeZero m] (hm : m < 2 ^ 31) (hn : n < 2 ^ 31) (g : Fin m → Fin n) (d : Fin n) (other : Fin m) :
    Scalar.select (IntOp.cmpi .sge (hitWord g d) 0#32) (hitWord g d) (BitVec.ofNat 32 other.val) = BitVec.ofNat 32 (lastOr g d other).val := by
  rw [select_hit hm hn]
  rcases miss_or_last g d with h | ⟨o, ho, hlast⟩
  · rw [if_neg (by simpa using h), lastOr_of_miss g d other h]
  · rw [if_pos ⟨o, ho⟩, hitWord_of_hit hm hn g d o ho hlast, lastOr_of_hit g d other o ho hlast]

/-- The reference's form: write after write in order, the last one wins. -/
theorem foldl_write {m n : ℕ} {α : Type} (g : Fin m → Fin n) (d : Fin n) (u : Fin m → α) (x : α) (L : List (Fin m)) (hL : L.Pairwise (· < ·)) :
    ((∀ o ∈ L, g o ≠ d) ∧ L.foldl (fun a o => if g o = d then u o else a) x = x)
      ∨ ∃ o ∈ L, g o = d ∧ (∀ o' ∈ L, g o' = d → o' ≤ o) ∧ L.foldl (fun a o => if g o = d then u o else a) x = u o := by
  induction L using List.reverseRecOn with
  | nil => exact .inl ⟨by simp, rfl⟩
  | append_singleton L a ih =>
    rw [List.foldl_append]
    simp only [List.foldl_cons, List.foldl_nil]
    obtain ⟨hL', -, hlt⟩ := List.pairwise_append.1 hL
    by_cases ha : g a = d
    · refine .inr ⟨a, by simp, ha, fun o' ho' _ => ?_, if_pos ha⟩
      rcases List.mem_append.1 ho' with h | h
      · exact (hlt o' h a (by simp)).le
      · simp at h; exact h.le
    · rw [if_neg ha]
      rcases ih hL' with ⟨h, e⟩ | ⟨o, ho, hd, hl, e⟩
      · refine .inl ⟨fun o ho => ?_, e⟩
        rcases List.mem_append.1 ho with ho | ho
        · exact h o ho
        · simp at ho; exact ho ▸ ha
      · refine .inr ⟨o, by simp [ho], hd, fun o' ho' hd' => ?_, e⟩
        rcases List.mem_append.1 ho' with ho' | ho'
        · exact hl o' ho' hd'
        · simp at ho'; exact absurd (ho' ▸ hd') ha

/-- Over all positions in order: the update of the last position sent to `d`, or the old value. -/
theorem foldl_write_all {m n : ℕ} {α : Type} (g : Fin m → Fin n) (d : Fin n) (u : Fin m → α) (x : α) (other : Fin m) :
    (List.finRange m).foldl (fun a o => if g o = d then u o else a) x = if ∃ o, g o = d then u (lastOr g d other) else x := by
  rcases foldl_write g d u x (List.finRange m) (List.pairwise_lt_finRange m) with ⟨h, e⟩ | ⟨o, -, ho, hl, e⟩
  · rw [e, if_neg]; rintro ⟨o, ho⟩; exact h o (List.mem_finRange o) ho
  · rw [e, if_pos ⟨o, ho⟩, lastOr_of_hit g d other o ho fun o' h' => hl o' (List.mem_finRange o') h']

end Cert.Matching

end
-- ==== Proof.KernelMatching.lean ====
/- What the kernel's matching computes at a detection, from a table of overlaps `v`: the matched object is the last
   one whose best detection this is, or else the best object; the deciding overlap is one in the first case and the
   largest overlap in the second. -/
module

public import proofs.«01_k».proof.Proof.KernelIdealRun
public import proofs.«01_k».proof.Proof.Choice

@[expose] public section

set_option maxRecDepth 16384

noncomputable section

namespace Cert.Matching

open Idealize.ShloMosaic Cert.KernelIdeal.Gen Cert.KernelIdeal.Run
open Cert.KernelIdeal (S1x5000x4 S1x5000 S1x64x4 S1x64 S64x5000 S64x4)

variable (v : FVec Ideal S64x5000 .f32)

/-- An object's best detection. -/
def bestDet (o : Fin 64) : Fin 5000 := firstMax fun d => v (ix2 o d)
/-- A detection's best object. -/
def bestObj (d : Fin 5000) : Fin 64 := firstMax fun o => v (ix2 o d)
/-- A detection's matched object. -/
def matched (d : Fin 5000) : Fin 64 := lastOr (bestDet v) d (bestObj v d)
open Classical in
/-- The overlap that decides whether a detection is matched at all. -/
def decisive (d : Fin 5000) : EReal := if ∃ o, bestDet v o = d then 1 else v (ix2 (bestObj v d) d)
/-- A detection is positive: its matched object's label is not zero and the deciding overlap is at least one half. -/
def IsPos (nz : Fin 64 → Prop) (d : Fin 5000) : Prop := nz (matched v d) ∧ ¬ decisive v d < Ideal.ofBits .f32 0x3F000000#32

theorem ofBits_bot : Ideal.ofBits .f32 0xFF800000#32 = ⊥ := by simp [Ideal.ofBits, Ideal.ieee]

/-- The largest overlap of a detection. -/
theorem kernel_max (d : Fin 5000) : k0_pay12 v (ix2 0 d) = v (ix2 (bestObj v d) d) := by
  pointwise [k0_pay12]
  simp only [ofBits_bot]
  exact fold_max_eq fun o => v (ix2 o d)

/-- The object, if any, that takes the detection for its own. -/
theorem kernel_hit (d : Fin 5000) : k0_pay13 v lanes objectIds (ix2 0 d) = hitWord (bestDet v) d := by
  pointwise [k0_pay13, lanes, objectIds]
  simp only [ofBits_bot]
  unfold hitWord
  refine Finset.fold_congr fun o _ => ?_
  rw [fold_minsi_eq (n := 5000) (by norm_num) fun d' => v (ix2 o d'), bestDet]

/-- The matched object's word. -/
theorem kernel_matched (d : Fin 5000) :
    Scalar.select (k0_pay14 v lanes objectIds (ix2 0 d)) (k0_pay13 v lanes objectIds (ix2 0 d))
      (Finset.univ.fold IntOp.minsi 2147483647#32 fun o : Fin 64 =>
        if v (ix2 o d) = Finset.univ.fold max ⊥ (fun o => v (ix2 o d)) then BitVec.ofNat 32 o.val else 64#32)
      = BitVec.ofNat 32 (matched v d).val := by
  have h14 : k0_pay14 v lanes objectIds (ix2 0 d) = IntOp.cmpi .sge (hitWord (bestDet v) d) 0#32 := by
    rw [← kernel_hit]; rfl
  rw [h14, kernel_hit, fold_minsi_eq (n := 64) (by norm_num) fun o => v (ix2 o d)]
  exact select_hitWord (by norm_num) (by norm_num) _ _ _

/-- The one-hot selection: a sum over the objects of a column times the matched object's indicator is that column there. -/
theorem sum_onehot (d : Fin 5000) (W : BitVec 32) (hW : W = BitVec.ofNat 32 (matched v d).val) (f : Fin 64 → EReal) :
    (∑ o : Fin 64, Scalar.select (IntOp.cmpi .eq (BitVec.ofNat 32 o.val) W) (f o) 0) = f (matched v d) := by
  subst hW
  simp only [select_eq (n := 64) (by norm_num)]
  rw [Finset.sum_ite_eq' Finset.univ (matched v d) f, if_pos (Finset.mem_univ _)]

variable (b : FVec Ideal S64x4 .f32) (l : FVec Ideal S1x64 .f32)

/-- The matched object's corner. -/
theorem kernel_corner (d : Fin 5000) :
    k0_pay15 b l v lanes objectIds (ix2 0 d) = b (ix2 (matched v d) 0)
    ∧ k0_pay15 b l v lanes objectIds (ix2 1 d) = b (ix2 (matched v d) 1)
    ∧ k0_pay15 b l v lanes objectIds (ix2 2 d) = b (ix2 (matched v d) 2)
    ∧ k0_pay15 b l v lanes objectIds (ix2 3 d) = b (ix2 (matched v d) 3)
    ∧ k0_pay15 b l v lanes objectIds (ix2 4 d) = l (ix2 0 (matched v d)) := by
  have hW := kernel_matched v d
  refine ⟨?_, ?_, ?_, ?_, ?_⟩
  all_goals
    pointwise [k0_pay15, k0_pay12, objectIds]
    simp only [ofBits_bot]
    exact sum_onehot v d _ hW _

/-- The positive bit. -/
theorem kernel_positive (d : Fin 5000) :
    k0_pay16 b l v lanes objectIds (ix2 0 d) = 1#1 ↔ IsPos v (fun o => l (ix2 0 o) ≠ 0) d := by
  have h14 : k0_pay14 v lanes objectIds (ix2 0 d) = IntOp.cmpi .sge (hitWord (bestDet v) d) 0#32 := by
    rw [← kernel_hit]; rfl
  have h : k0_pay16 b l v lanes objectIds (ix2 0 d)
      = IntOp.andi (BitVec.ofBool (decide (k0_pay15 b l v lanes objectIds (ix2 4 d) ≠ 0)))
          (IntOp.xori (BitVec.ofBool (decide (Scalar.select (k0_pay14 v lanes objectIds (ix2 0 d)) 1 (k0_pay12 v (ix2 0 d))
            < Ideal.ofBits .f32 0x3F000000#32))) 1#1) := by
    pointwise [k0_pay16]
  rw [h, (kernel_corner v b l d).2.2.2.2, h14, select_hit (by norm_num) (by norm_num), kernel_max]
  unfold IsPos decisive
  by_cases h1 : l (ix2 0 (matched v d)) = 0
  · simp [h1, IntOp.andi, IntOp.xori]
  · generalize (if ∃ o, bestDet v o = d then (1 : EReal) else v (ix2 (bestObj v d) d)) = x
    by_cases h2 : x < Ideal.ofBits .f32 0x3F000000#32
    · simp [h1, h2, IntOp.andi, IntOp.xori]
    · simp [h1, h2, IntOp.andi, IntOp.xori]

end Cert.Matching

end
-- ==== Proof.ReferenceMatching.lean ====
/- What the reference's matching computes at a detection, from a table of overlaps `v`: the same matched object and
   the same deciding overlap as the kernel's. -/
module

public import proofs.«01_k».proof.Proof.ReferenceStages
public import proofs.«01_k».proof.Proof.KernelMatching
public import Idealize.ShloMosaic.Lib.Routing.OpsSet
public import Idealize.ShloMosaic.Lib.Routing.OpsPair

@[expose] public section

set_option maxRecDepth 16384

noncomputable section

namespace Cert.Matching

open Idealize.ShloMosaic Cert.ReferenceIdeal.Gen Cert.ReferenceIdeal.Value
open Cert.ReferenceIdeal (S64x5000 S64x4 S5000 S64 S64x1 S5000x1 S_ S5000x4)

variable (v : FVec Ideal S64x5000 .f32)

/-- The largest overlap of a detection. -/
theorem reference_max (d : Fin 5000) : bestOverlapOf (F := Ideal) v (ix1 d) = v (ix2 (bestObj v d) d) := by
  pointwise [bestOverlapOf]
  simp only [ofBits_bot]
  exact fold_max_eq fun o => v (ix2 o d)

/-- The best object's word. -/
theorem reference_bestObj (d : Fin 5000) : bestObjOf (F := Ideal) v (ix1 d) = BitVec.ofNat 32 (bestObj v d).val := by
  unfold bestObjOf
  dsimp only
  rw [Ideal.argReduce_eq_reduce2]
  rw [Host.reduce2_eq_foldl_fiber]
  have hinit : (constant (F := Ideal) S_ .f32 0xFF800000#32 (Shape.Idx.first h_S_) : EReal) = ⊥ := ofBits_bot
  rw [hinit]
  refine foldl_reducer_eq (n := 64) (by norm_num) (fun o => v (ix2 o d)) _ fun q => ?_
  unfold Host.argReduceFiber
  simp only [List.mem_map, List.mem_filter, List.mem_finRange, true_and, decide_eq_true_eq]
  constructor
  · rintro ⟨n, hn, rfl⟩
    obtain ⟨k, hk⟩ := (reducesTo_S64x5000_S5000_d0.fiber_r2_a0 _ _).1 hn
    refine ⟨k, ?_⟩
    rw [← hk]
    rfl
  · rintro ⟨k, rfl⟩
    refine ⟨S64x5000.rowMajor (ix2 k d), ?_, ?_⟩
    · rw [Equiv.symm_apply_apply]
      exact (reducesTo_S64x5000_S5000_d0.fiber_r2_a0 _ _).2 ⟨k, rfl⟩
    · rw [Equiv.symm_apply_apply]; rfl

/-- The best detection's word. -/
theorem reference_bestDet (o : Fin 64) : bestDetOf (F := Ideal) v (ix1 o) = BitVec.ofNat 32 (bestDet v o).val := by
  unfold bestDetOf
  dsimp only
  rw [Ideal.argReduce_eq_reduce2]
  rw [Host.reduce2_eq_foldl_fiber]
  have hinit : (constant (F := Ideal) S_ .f32 0xFF800000#32 (Shape.Idx.first h_S_) : EReal) = ⊥ := ofBits_bot
  rw [hinit]
  refine foldl_reducer_eq (n := 5000) (by norm_num) (fun d => v (ix2 o d)) _ fun q => ?_
  unfold Host.argReduceFiber
  simp only [List.mem_map, List.mem_filter, List.mem_finRange, true_and, decide_eq_true_eq]
  constructor
  · rintro ⟨n, hn, rfl⟩
    obtain ⟨k, hk⟩ := (reducesTo_S64x5000_S64_d1.fiber_r2_a1 _ _).1 hn
    refine ⟨k, ?_⟩
    rw [← hk]
    rfl
  · rintro ⟨k, rfl⟩
    refine ⟨S64x5000.rowMajor (ix2 o k), ?_, ?_⟩
    · rw [Equiv.symm_apply_apply]
      exact (reducesTo_S64x5000_S64_d1.fiber_r2_a1 _ _).2 ⟨k, rfl⟩
    · rw [Equiv.symm_apply_apply]; rfl

/-- A word that is not negative is its own index. -/
theorem index_of_small {n : ℕ} (hn : n < 2 ^ 31) (w k : BitVec 32) (hw : w = BitVec.ofNat 32 n) :
    Scalar.select (IntOp.cmpi .slt w 0#32) (IntOp.addi w k) w = BitVec.ofNat 32 n := by
  have : ¬ w.slt 0#32 := by rw [hw]; simp [BitVec.slt, toInt_small hn]
  rw [hw] at this ⊢
  simp [Scalar.select, IntOp.cmpi, this]

/-- The scatter's index of an object. -/
theorem detIndex_apply (o : Fin 64) : detIndexOf (F := Ideal) (bestDetOf (F := Ideal) v) (ix2 o 0) = BitVec.ofNat 32 (bestDet v o).val := by
  have h := reference_bestDet v o
  have hl := (bestDet v o).isLt
  pointwise [detIndexOf]
  exact index_of_small (by omega) _ _ h

/-- An object's update lands at the detection its index names. -/
theorem lands_iff (i : IVec S64x1 32) (o : Fin 64) (d : Fin 5000) :
    Cert.ReferenceIdeal.scatter_S5000_S64x1_S64_n_0_0_1.resultIdx? (ix1 o) i = some (ix1 d)
      ↔ (i (ix2 o 0)).toInt = (d.val : Int) := by
  have hw : Cert.ReferenceIdeal.scatter_S5000_S64x1_S64_n_0_0_1.window (ix1 o) 0 = 0 := rfl
  have hs : Cert.ReferenceIdeal.scatter_S5000_S64x1_S64_n_0_0_1.start (ix1 o) i 0 = (i (ix2 o 0)).toInt := by
    refine congrArg (fun q => (i q).toInt) (funext fun a => Fin.ext ?_)
    match a with
    | ⟨0, _⟩ => rfl
    | ⟨1, _⟩ => rfl
  refine (Routing.resultIdx?_ix1 (N := 5000) Cert.ReferenceIdeal.scatter_S5000_S64x1_S64_n_0_0_1 (ix1 o) i d).trans ?_
  rw [hw, hs]
  simp

/-- A left fold over the numbers under two equal bounds. -/
theorem foldl_cast {α : Type} {m n : ℕ} (h : m = n) (f : α → Fin n → α) (a : α) :
    (List.finRange m).foldl (fun a k => f a (k.cast h)) a = (List.finRange n).foldl f a := by
  subst h; rfl

/-- Writing, object by object, at each object's best detection. -/
theorem scatter_bestDet {α : Type} (a : S5000.Idx → α) (u : S64.Idx → α) (d : Fin 5000) (other : Fin 64) :
    Host.scatter Cert.ReferenceIdeal.scatter_S5000_S64x1_S64_n_0_0_1 (fun _ b => b) a
        (detIndexOf (F := Ideal) (bestDetOf (F := Ideal) v)) u (ix1 d)
      = if ∃ o, bestDet v o = d then u (ix1 (lastOr (bestDet v) d other)) else a (ix1 d) := by
  rw [Routing.scatter_at, ← foldl_write_all (bestDet v) d (fun o => u (ix1 o)) (a (ix1 d)) other]
  have hn : S64.numel = 64 := Routing.numel1 64
  have key : ∀ n : Fin S64.numel, S64.rowMajor.symm n = ix1 (n.cast hn) := fun n => Routing.symm1 n
  have hl : ∀ o : Fin 64, Cert.ReferenceIdeal.scatter_S5000_S64x1_S64_n_0_0_1.resultIdx? (ix1 o)
      (detIndexOf (F := Ideal) (bestDetOf (F := Ideal) v)) = some (ix1 d) ↔ bestDet v o = d := fun o => by
    have hlt := (bestDet v o).isLt
    rw [lands_iff, detIndex_apply, toInt_small (n := (bestDet v o).val) (by omega), Fin.ext_iff]
    omega
  simp only [key, hl]
  exact foldl_cast hn (fun a o => if bestDet v o = d then u (ix1 o) else a) (a (ix1 d))

/-- The matched object's word. -/
theorem reference_obj (d : Fin 5000) :
    objOf (F := Ideal) (bestObjOf (F := Ideal) v) (bestDetOf (F := Ideal) v) (ix1 d) = BitVec.ofNat 32 (matched v d).val := by
  unfold objOf
  rw [scatter_bestDet v _ _ d (bestObj v d), reference_bestObj]
  unfold matched
  by_cases h : ∃ o, bestDet v o = d
  · rw [if_pos h]; rfl
  · rw [if_neg h, lastOr_of_miss (bestDet v) d (bestObj v d) fun o ho => h ⟨o, ho⟩]

/-- The deciding overlap. -/
theorem reference_ovd (d : Fin 5000) :
    ovdOf (F := Ideal) (bestOverlapOf (F := Ideal) v) (bestDetOf (F := Ideal) v) (ix1 d) = decisive v d := by
  unfold ovdOf
  rw [scatter_bestDet v _ _ d (bestObj v d), reference_max]
  unfold decisive
  have h1 : (broadcastInDim S64 ![] bcast_S_S64 (constant (F := Ideal) S_ .f32 0x3F800000#32)) (ix1 (lastOr (bestDet v) d (bestObj v d))) = (1 : EReal) := by
    pointwise []
  rw [h1]

variable (j : IVec S5000 32) (hj : ∀ d, j (ix1 d) = BitVec.ofNat 32 (matched v d).val)
include hj

/-- The gathers' index of a detection. -/
theorem objIndex_apply (d : Fin 5000) : objIndexOf (F := Ideal) j (ix2 d 0) = BitVec.ofNat 32 (matched v d).val := by
  have h := hj d
  have hl := (matched v d).isLt
  pointwise [objIndexOf]
  exact index_of_small (by omega) _ _ h

/-- The matched corners. -/
theorem reference_true (b : FVec Ideal S64x4 .f32) (d : Fin 5000) (c : Fin 4) :
    trueOf (F := Ideal) b j (ix2 d c) = b (ix2 (matched v d) c) :=
  Routing.gather_row Cert.ReferenceIdeal.gather_S64x4_S5000x1_S5000x4_1_0_n_n_0_1_14 rfl rfl rfl rfl rfl b _ d c _
    (objIndex_apply v j hj d) (by norm_num)

/-- Which detections are positive. -/
theorem reference_pos (l : IVec S64 32) (w : FVec Ideal S5000 .f32) (d : Fin 5000) (hw : w (ix1 d) = decisive v d) :
    posOf (F := Ideal) (matchedLabelOf (F := Ideal) l j w) (ix1 d) = 1#1 ↔ IsPos v (fun o => l (ix1 o) ≠ 0#32) d := by
  have hg : Host.gather Cert.ReferenceIdeal.gather_S64_S5000x1_S5000_n_0_n_n_0_1_1 l (objIndexOf (F := Ideal) j) (ix1 d)
      = l (ix1 (matched v d)) :=
    Routing.gather_take1 Cert.ReferenceIdeal.gather_S64_S5000x1_S5000_n_0_n_n_0_1_1 rfl rfl rfl rfl l _ d _
      (objIndex_apply v j hj d) (by norm_num)
  pointwise [posOf, matchedLabelOf]
  rw [hg, hw]
  pointwise [id_eq]
  unfold IsPos
  by_cases h : decisive v d < Ideal.ofBits .f32 0x3F000000#32
  · simp [h, IntOp.cmpi]
  · by_cases h0 : l (ix1 (matched v d)) = 0#32
    · simp [h, h0, IntOp.cmpi]
    · have h1 : (l (ix1 (matched v d)) != 0#32) = true := by simpa using h0
      simp [h, h0, h1, IntOp.cmpi]

end Cert.Matching

end
-- ==== Proof.Grid.lean ====
/- Whole numbers, and whole multiples of `2 ^ -27`, among the extended reals. -/
module

public import Idealize.ShloMosaic.Lib.Pointwise
public import Mathlib.Tactic.Ring
public import Mathlib.Tactic.NormNum

@[expose] public section

noncomputable section

namespace Cert.Matching

open Idealize.ShloMosaic

/-- A whole number. -/
def num (n : ℕ) : EReal := ((n : ℝ) : EReal)

/-- A whole multiple of `2 ^ -27`. -/
def grid (n : ℕ) : EReal := (((n : ℝ) / 2 ^ 27 : ℝ) : EReal)

theorem num_zero : num 0 = 0 := by simp [num]
theorem num_one : num 1 = 1 := by simp [num]
theorem grid_zero : grid 0 = 0 := by simp [grid]
theorem grid_one : grid (8 ^ 9) = 1 := by
  unfold grid
  rw [← EReal.coe_one]
  norm_num
theorem num_le {a b : ℕ} : num a ≤ num b ↔ a ≤ b := by simp [num]
theorem num_lt {a b : ℕ} : num a < num b ↔ a < b := by simp [num]
theorem num_add (a b : ℕ) : num a + num b = num (a + b) := by
  unfold num; rw [← EReal.coe_add]; exact congrArg _ (by push_cast; rfl)
theorem num_mul (a b : ℕ) : num a * num b = num (a * b) := by
  unfold num; rw [← EReal.coe_mul]; exact congrArg _ (by push_cast; rfl)
theorem num_sub {a b : ℕ} (h : b ≤ a) : num a - num b = num (a - b) := by
  unfold num; rw [← EReal.coe_sub]; exact congrArg _ (by push_cast [h]; rfl)
theorem grid_lt {a b : ℕ} : grid a < grid b ↔ a < b := by
  unfold grid
  rw [EReal.coe_lt_coe_iff, div_lt_div_iff_of_pos_right (by positivity)]
  exact Nat.cast_lt
theorem grid_add (a b : ℕ) : grid a + grid b = grid (a + b) := by
  unfold grid; rw [← EReal.coe_add]; exact congrArg _ (by push_cast; ring)
theorem grid_mul (a n : ℕ) : grid a * num n = grid (a * n) := by
  unfold grid num; rw [← EReal.coe_mul]; exact congrArg _ (by push_cast; ring)

/-- A sum of whole numbers. -/
theorem num_sum {ι : Type} (s : Finset ι) (f : ι → ℕ) : ∑ i ∈ s, num (f i) = num (∑ i ∈ s, f i) := by
  classical
  induction s using Finset.induction_on with
  | empty => simp [num_zero]
  | insert a s ha ih => rw [Finset.sum_insert ha, Finset.sum_insert ha, ih, num_add]

/-- A sum of multiples. -/
theorem grid_sum {ι : Type} (s : Finset ι) (f : ι → ℕ) : ∑ i ∈ s, grid (f i) = grid (∑ i ∈ s, f i) := by
  classical
  induction s using Finset.induction_on with
  | empty => simp [grid_zero]
  | insert a s ha ih => rw [Finset.sum_insert ha, Finset.sum_insert ha, ih, grid_add]

/-- Counting by a sum of ones and zeros. -/
theorem num_count {ι : Type} [Fintype ι] (p : ι → Prop) [DecidablePred p] :
    (∑ i, if p i then (1 : EReal) else 0) = num (Finset.univ.filter p).card := by
  rw [Finset.card_filter, ← num_sum]
  refine Finset.sum_congr rfl fun i _ => ?_
  split_ifs
  · exact num_one.symm
  · exact num_zero.symm

/-- One, where a condition holds. -/
theorem num_ite (p : Prop) [Decidable p] : (if p then (1 : EReal) else 0) = num (if p then 1 else 0) := by
  split_ifs
  · exact num_one.symm
  · exact num_zero.symm

/-! ## The literals -/

theorem lit_2 : Ideal.ofBits .f32 0x40000000#32 = num 2 := by simp [Ideal.ofBits, Ideal.ieee, num]; rw [← EReal.coe_mul]; exact congrArg _ (by norm_num)
theorem lit_3 : Ideal.ofBits .f32 0x40400000#32 = num 3 := by simp [Ideal.ofBits, Ideal.ieee, num]; rw [← EReal.coe_mul]; exact congrArg _ (by norm_num)
theorem lit_4 : Ideal.ofBits .f32 0x40800000#32 = num 4 := by simp [Ideal.ofBits, Ideal.ieee, num]; rw [← EReal.coe_mul]; exact congrArg _ (by norm_num)
theorem lit_5 : Ideal.ofBits .f32 0x40A00000#32 = num 5 := by simp [Ideal.ofBits, Ideal.ieee, num]; rw [← EReal.coe_mul]; exact congrArg _ (by norm_num)
theorem lit_6 : Ideal.ofBits .f32 0x40C00000#32 = num 6 := by simp [Ideal.ofBits, Ideal.ieee, num]; rw [← EReal.coe_mul]; exact congrArg _ (by norm_num)
theorem lit_7 : Ideal.ofBits .f32 0x40E00000#32 = num 7 := by simp [Ideal.ofBits, Ideal.ieee, num]; rw [← EReal.coe_mul]; exact congrArg _ (by norm_num)
theorem lit_5000 : Ideal.ofBits .f32 0x459C4000#32 = num 5000 := by simp [Ideal.ofBits, Ideal.ieee, num]; rw [← EReal.coe_mul]; exact congrArg _ (by norm_num)
theorem lit_eighth : Ideal.ofBits .f32 0x3E000000#32 = ((1 / 8 : ℝ) : EReal) := by
  simp [Ideal.ofBits, Ideal.ieee]; rw [← EReal.coe_mul]; exact congrArg _ (by norm_num)
theorem lit_grid : Ideal.ofBits .f32 0x4D000000#32 = num (8 ^ 9) := by
  simp [Ideal.ofBits, Ideal.ieee, num]; rw [← EReal.coe_pow]; rw [← EReal.coe_mul]; exact congrArg _ (by norm_num)

/-- An eighth of a width. -/
theorem grid_eighth (w : ℕ) : grid (8 * w) * Ideal.ofBits .f32 0x3E000000#32 = grid w := by
  rw [lit_eighth]
  unfold grid; rw [← EReal.coe_mul]; exact congrArg _ (by push_cast; ring)

end Cert.Matching
-- ==== Proof.Sums.lean ====
/- The sums over the detections: the kernel's and the reference's agree where their positive detections do. -/
module

public import proofs.«01_k».proof.Proof.Grid
public import proofs.«01_k».proof.Proof.ReferenceStages
public import proofs.«01_k».proof.Proof.KernelIdealRun

@[expose] public section

set_option maxRecDepth 16384

noncomputable section

namespace Cert.Matching

open Idealize.ShloMosaic Cert.KernelIdeal.Gen Cert.ReferenceIdeal.Value
open Cert.ReferenceIdeal (S5000 S_ S1x5000 S1x5000x4 S5000x4)
open Cert.KernelIdeal (S5x5000)

variable (p : IVec S1x5000 1) (q : IVec S5000 1) (hpq : ∀ d, p (ix2 0 d) = q (ix1 d))

/-- A bit is zero or one. -/
theorem bit_cases (b : BitVec 1) : b = 0#1 ∨ b = 1#1 := by revert b; decide

/-- Choosing one or zero by a bit is reading the bit as a number. -/
theorem select_bit (b : BitVec 1) : (Scalar.select b (1 : EReal) 0) = num (if b = 1#1 then 1 else 0) := by
  rcases bit_cases b with rfl | rfl
  · simp [Scalar.select, num_zero]
  · simp [Scalar.select, num_one]

/-- Choosing a value or zero by a bit is multiplying by the bit. -/
theorem select_mul (b : BitVec 1) (x : EReal) : Scalar.select b x 0 = x * num (if b = 1#1 then 1 else 0) := by
  rcases bit_cases b with rfl | rfl
  · simp [Scalar.select, num_zero]
  · simp [Scalar.select, num_one]

theorem posf_apply (d : Fin 5000) : posfOf (F := Ideal) q (ix1 d) = num (if q (ix1 d) = 1#1 then 1 else 0) := by
  show (((q (ix1 d)).toNat : ℝ) : EReal) = _
  rcases bit_cases (q (ix1 d)) with h | h <;> simp [h, num]

/-- How many detections are positive. -/
def positives : ℕ := (Finset.univ.filter fun d : Fin 5000 => q (ix1 d) = 1#1).card

theorem reference_count : nPosOf (F := Ideal) (posfOf (F := Ideal) q) ix0 = num (positives q) := by
  pointwise [nPosOf]
  simp only [posf_apply, num_sum]
  rw [positives, Finset.card_filter]

include hpq

theorem kernel_count : k0_pay18 (F := Ideal) p = num (positives q) := by
  pointwise [k0_pay18, k0_pay17]
  rw [Fin.sum_univ_one]
  simp only [hpq, select_bit, num_sum]
  rw [positives, Finset.card_filter]

theorem kernel_wanted (h : 4 * positives q ≤ 5000) : k0_pay23 (F := Ideal) p = num (3 * positives q) := by
  pointwise [k0_pay23]
  rw [kernel_count p q hpq, lit_3, lit_5000, num_mul]
  exact min_eq_left (num_le.2 (by omega))

theorem conf_pos (x1 : FVec Ideal S1x5000 .f32) :
    (k0_pay21 (F := Ideal) x1 p : EReal) = confPosOf (F := Ideal) (confOf (scores (F := Ideal) x1)) (posfOf (F := Ideal) q) ix0 := by
  pointwise [k0_pay21, confPosOf, k0_pay17, k0_pay20]
  rw [Fin.sum_univ_one]
  refine Finset.sum_congr rfl fun d _ => ?_
  rw [posf_apply, hpq, select_mul]
  refine congrArg (fun c : EReal => c * _) ?_
  pointwise [confOf, scores]

theorem neg_eq (x1 : FVec Ideal S1x5000 .f32) (d : Fin 5000) :
    (k0_pay22 (F := Ideal) x1 p (ix2 0 d) : EReal) = negOf (F := Ideal) q (confOf (scores (F := Ideal) x1)) (ix1 d) := by
  have h := hpq d
  pointwise [k0_pay22, negOf, k0_pay20, confOf, scores, id_eq]
  rw [h]

theorem loc_loss (x0 : FVec Ideal S1x5000x4 .f32) (pk : FVec Ideal S5x5000 .f32) (tr : FVec Ideal S5000x4 .f32)
    (ht : ∀ d, pk (ix2 0 d) = tr (ix2 d 0) ∧ pk (ix2 1 d) = tr (ix2 d 1) ∧ pk (ix2 2 d) = tr (ix2 d 2) ∧ pk (ix2 3 d) = tr (ix2 d 3)) :
    (k0_pay19 (F := Ideal) (k0_pay10 (F := Ideal) x0) pk p : EReal)
      = locLossOf (F := Ideal) (dets (F := Ideal) x0) tr (posfOf (F := Ideal) q) (nPosOf (posfOf (F := Ideal) q)) ix0 := by
  have hd : ∀ (c : Fin 4) (d : Fin 5000), k0_pay10 (F := Ideal) x0 (ix2 c d) = dets (F := Ideal) x0 (ix2 d c) := fun c d => by
    pointwise [k0_pay10, dets]
  have hc : (∑ _x : Fin 1, ∑ x, Scalar.select (p (ix2 0 x)) (1 : EReal) 0) = num (positives q) := by
    rw [Fin.sum_univ_one]
    simp only [hpq, select_bit, num_sum]
    rw [positives, Finset.card_filter]
  pointwise [k0_pay19, locLossOf, k0_pay18, k0_pay17]
  rw [hc, reference_count, Fin.sum_univ_one]
  refine congrArg (fun t : EReal => Ideal.div t _) (Finset.sum_congr rfl fun d _ => ?_)
  obtain ⟨t0, t1, t2, t3⟩ := ht d
  rw [Fin.sum_univ_four, posf_apply, hpq, hd, hd, hd, hd, t0, t1, t2, t3]
  rcases bit_cases (q (ix1 d)) with h | h
  · simp [h, Scalar.select, num_zero]
  · simp [h, Scalar.select, num_one]

end Cert.Matching

end
-- ==== Proof.Search.lean ====
/- The threshold search over whole numbers, and the sum of the largest entries of an array. Thresholds and entries are
   counted in units of the search's last width, `2 ^ -27`, so both are whole numbers here. -/
module

public import Idealize.ShloMosaic.Lib.Pointwise

@[expose] public section

namespace Cert.Matching

open Finset

variable {N : ℕ} (z : Fin N → ℕ)

/-- How many entries are above `x`. -/
def above (x : ℕ) : ℕ := (univ.filter fun i => x < z i).card

theorem above_anti {x y : ℕ} (h : x ≤ y) : above z y ≤ above z x :=
  card_le_card fun i hi => by simp at hi ⊢; omega

/-- How many of the seven inner points at distance `w` have at least `k` entries above them. -/
def stages (k lo w : ℕ) : ℕ := ∑ j ∈ Icc 1 7, if k ≤ above z (lo + j * w) then 1 else 0

/-- The search keeps its bracket: enough entries above the lower end, too few above the upper. -/
theorem stages_bracket (k lo w : ℕ) (hlo : k ≤ above z lo) (hhi : ¬ k ≤ above z (lo + 8 * w)) :
    k ≤ above z (lo + stages z k lo w * w) ∧ ¬ k ≤ above z (lo + stages z k lo w * w + w) := by
  have mono : ∀ i j : ℕ, i ≤ j → k ≤ above z (lo + j * w) → k ≤ above z (lo + i * w) := fun i j hij h =>
    h.trans (above_anti z (by have := Nat.mul_le_mul_right w hij; omega))
  have hex : ∃ s, ¬ k ≤ above z (lo + (s + 1) * w) := ⟨7, by simpa using hhi⟩
  classical
  let s := Nat.find hex
  have hs1 : ¬ k ≤ above z (lo + (s + 1) * w) := Nat.find_spec hex
  have hs7 : s ≤ 7 := Nat.find_min' hex (by simpa using hhi)
  have hs0 : k ≤ above z (lo + s * w) := by
    rcases Nat.eq_zero_or_pos s with h | h
    · rw [h]; simpa using hlo
    · have := Nat.find_min hex (m := s - 1) (by omega)
      rw [Nat.sub_add_cancel h] at this
      exact not_not.1 this
  have hst : stages z k lo w = s := by
    unfold stages
    rw [← card_filter]
    have : (Icc 1 7).filter (fun j => k ≤ above z (lo + j * w)) = Icc 1 s := by
      ext j
      simp only [mem_filter, mem_Icc]
      constructor
      · rintro ⟨⟨h1, -⟩, h⟩
        refine ⟨h1, ?_⟩
        by_contra hc
        exact hs1 (mono _ j (by omega) h)
      · rintro ⟨h1, h2⟩
        exact ⟨⟨h1, by omega⟩, mono j s h2 hs0⟩
    rw [this]; simp
  rw [hst]
  exact ⟨hs0, by rw [show lo + s * w + w = lo + (s + 1) * w by rw [Nat.add_mul, Nat.one_mul, Nat.add_assoc]]; exact hs1⟩

/-- With nothing wanted, every inner point counts. -/
theorem stages_zero (lo w : ℕ) : stages z 0 lo w = 7 := by simp [stages]

/-- The lower end before round `r`, of nine. -/
def lower (k : ℕ) : ℕ → ℕ
  | 0 => 0
  | r + 1 => lower k r + stages z k (lower k r) (8 ^ (8 - r)) * 8 ^ (8 - r)

theorem lower_bracket (k : ℕ) (h0 : k ≤ above z 0) (h1 : ¬ k ≤ above z (8 ^ 9)) (r : ℕ) (hr : r ≤ 9) :
    k ≤ above z (lower z k r) ∧ ¬ k ≤ above z (lower z k r + 8 ^ (9 - r)) := by
  induction r with
  | zero => exact ⟨h0, by simpa [lower] using h1⟩
  | succ r ih =>
    obtain ⟨a, b⟩ := ih (by omega)
    have e : 8 ^ (9 - r) = 8 * 8 ^ (8 - r) := by
      rw [show 9 - r = (8 - r) + 1 by omega, pow_succ, mul_comm]
    rw [e] at b
    have := stages_bracket z k _ _ a b
    rw [show 9 - (r + 1) = 8 - r by omega]
    exact this

theorem lower_zero (r : ℕ) (hr : r ≤ 9) : lower z 0 r + 8 ^ (9 - r) = 8 ^ 9 := by
  induction r with
  | zero => simp [lower]
  | succ r ih =>
    have := ih (by omega)
    have e : 8 ^ (9 - r) = 8 * 8 ^ (8 - r) := by
      rw [show 9 - r = (8 - r) + 1 by omega, pow_succ, mul_comm]
    rw [show 9 - (r + 1) = 8 - r by omega, lower, stages_zero]
    omega

/-- The threshold the search ends at. -/
def threshold (k : ℕ) : ℕ := lower z k 9 + 1

/-- At most `k` entries are above the threshold, and at least `k` are not below it. -/
theorem threshold_spec (k : ℕ) (hz : ∀ i, z i ≤ 8 ^ 9) (h0 : k ≤ above z 0) :
    above z (threshold z k) ≤ k ∧ k ≤ (univ.filter fun i => threshold z k ≤ z i).card := by
  have htop : above z (8 ^ 9) = 0 := by
    unfold above
    rw [card_eq_zero, filter_eq_empty_iff]
    intro i _
    have := hz i
    omega
  rcases Nat.eq_zero_or_pos k with rfl | hk
  · have : threshold z 0 = 8 ^ 9 := by simpa [threshold] using lower_zero z 9 le_rfl
    rw [this, htop]
    exact ⟨le_rfl, Nat.zero_le _⟩
  · obtain ⟨a, b⟩ := lower_bracket z k h0 (by rw [htop]; omega) 9 le_rfl
    exact ⟨(not_le.1 (by simpa [threshold] using b)).le, a⟩

/-- The sum of the `k` largest entries: those above a threshold that at most `k` are above and at least `k` are not
    below, and the threshold itself for the rest. `r` lists the entries from the largest down. -/
theorem sum_largest (r : Fin N → ℕ) (σ : Equiv.Perm (Fin N)) (hr : ∀ i, r i = z (σ i)) (hanti : Antitone r) (k t : ℕ)
    (hk : k ≤ N) (h1 : above z t ≤ k) (h2 : k ≤ (univ.filter fun i => t ≤ z i).card) :
    (∑ i, if i.val < k then r i else 0) = (∑ i, if t < z i then z i else 0) + (k - above z t) * t := by
  have hc1 : (univ.filter fun i => t < r i).card = above z t := by
    unfold above
    refine card_equiv σ fun i => by simp [hr]
  have hc2 : (univ.filter fun i => t ≤ r i).card = (univ.filter fun i => t ≤ z i).card :=
    card_equiv σ fun i => by simp [hr]
  have hs : (∑ i, if t < z i then z i else 0) = ∑ i, if t < r i then r i else 0 :=
    (Equiv.sum_comp σ fun i => if t < z i then z i else 0).symm.trans (sum_congr rfl fun i _ => by rw [hr])
  have below : ∀ i : Fin N, t < r i → i.val < k := fun i hi => by
    have : (univ.filter fun j : Fin N => j ≤ i) ⊆ univ.filter fun i => t < r i := fun j hj => by
      simp at hj ⊢
      exact hi.trans_le (hanti hj)
    have := card_le_card this
    rw [hc1] at this
    have e : (univ.filter fun j : Fin N => j ≤ i).card = i.val + 1 := by
      rw [show (univ.filter fun j : Fin N => j ≤ i) = Iic i by ext; simp]; simp
    omega
  have least : ∀ i : Fin N, i.val < k → t ≤ r i := fun i hi => by
    by_contra hc
    have : (univ.filter fun i => t ≤ r i) ⊆ univ.filter fun j : Fin N => j < i := fun j hj => by
      simp at hj ⊢
      by_contra hji
      exact hc (hj.trans (hanti (not_lt.1 hji)))
    have := card_le_card this
    rw [hc2] at this
    have e : (univ.filter fun j : Fin N => j < i).card = i.val := by
      rw [show (univ.filter fun j : Fin N => j < i) = Iio i by ext; simp]; simp
    omega
  have hkc : (univ.filter fun i : Fin N => i.val < k).card = k := by
    rcases Nat.eq_or_lt_of_le hk with h | h
    · subst h; simp
    · have : (univ.filter fun i : Fin N => i.val < k) = Iio (⟨k, h⟩ : Fin N) := by ext i; simp [Fin.lt_def]
      rw [this]; simp
  have split : ∀ i : Fin N, (if i.val < k then r i else 0) + (if t < r i then t else 0)
      = (if t < r i then r i else 0) + if i.val < k then t else 0 := fun i => by
    have hb := below i
    have hl := least i
    split_ifs <;> omega
  have total := sum_congr (rfl : (univ : Finset (Fin N)) = univ) fun i _ => split i
  rw [sum_add_distrib, sum_add_distrib, ← sum_filter (p := fun i => t < r i) (f := fun _ => t),
    ← sum_filter (p := fun i : Fin N => i.val < k) (f := fun _ => t), sum_const, sum_const, hc1, hkc] at total
  rw [hs]
  simp only [smul_eq_mul] at total
  have : above z t * t ≤ k * t := Nat.mul_le_mul_right t h1
  rw [Nat.sub_mul]
  omega

end Cert.Matching
-- ==== Proof.KernelSearch.lean ====
/- The kernel's threshold search and its final sum, on entries that are whole multiples of `2 ^ -27`. -/
module

public import proofs.«01_k».proof.Proof.Search
public import proofs.«01_k».proof.Proof.Grid
public import proofs.«01_k».proof.Proof.KernelIdealRun

@[expose] public section

set_option maxRecDepth 16384

noncomputable section

namespace Cert.Matching

open Idealize.ShloMosaic Cert.KernelIdeal.Gen Cert.KernelIdeal.Run
open Cert.KernelIdeal (S1x5000 S1x1)

variable (neg : FVec Ideal S1x5000 .f32) (z : Fin 5000 → ℕ) (hneg : ∀ d, neg (ix2 0 d) = grid (z d))
include hneg

/-- The count above a threshold. -/
theorem count_above (a : ℕ) :
    (∑ _x : Fin 1, ∑ x, if grid a < neg (ix2 0 x) then (1 : EReal) else 0) = num (above z a) := by
  rw [Fin.sum_univ_one]
  simp only [hneg, grid_lt]
  exact num_count fun d => a < z d

/-- One round: the lower end moves up by the counted eighths of the width. -/
theorem narrow_grid (k lo w : ℕ) :
    narrow (F := Ideal) neg (num k) (grid lo, grid (8 * w)) = (grid (lo + stages z k lo w * w), grid w) := by
  have h3 : k0_pay3 (F := Ideal) (grid (8 * w)) = grid w := grid_eighth w
  have hs : stages z k lo w = (if k ≤ above z (lo + w) then 1 else 0) + (if k ≤ above z (lo + w * 2) then 1 else 0)
      + (if k ≤ above z (lo + w * 3) then 1 else 0) + (if k ≤ above z (lo + w * 4) then 1 else 0)
      + (if k ≤ above z (lo + w * 5) then 1 else 0) + (if k ≤ above z (lo + w * 6) then 1 else 0)
      + (if k ≤ above z (lo + w * 7) then 1 else 0) := by
    have e : Finset.Icc 1 7 = {1, 2, 3, 4, 5, 6, 7} := by decide
    unfold stages
    rw [e]
    rw [Finset.sum_insert (by decide), Finset.sum_insert (by decide), Finset.sum_insert (by decide), Finset.sum_insert (by decide),
      Finset.sum_insert (by decide), Finset.sum_insert (by decide), Finset.sum_singleton]
    simp only [Nat.mul_comm _ w, Nat.mul_one, Nat.add_assoc]
  unfold narrow
  refine Prod.ext ?_ h3
  dsimp only
  rw [h3]
  pointwise [k0_pay1, k0_pay6, k0_pay4, k0_pay7, k0_pay5]
  simp only [h3, lit_2, lit_3, lit_4, lit_5, lit_6, lit_7, grid_mul, grid_add, count_above neg z hneg, num_le]
  simp only [num_ite, num_add]
  rw [mul_comm (num _), grid_mul, grid_add, hs, Nat.mul_comm w]

/-- The search's pair before each round. -/
theorem narrowed_grid (k r : ℕ) (hr : r ≤ 9) :
    narrowed (F := Ideal) neg (num k) (grid 0, grid (8 ^ 9)) r = (grid (lower z k r), grid (8 ^ (9 - r))) := by
  induction r with
  | zero => rfl
  | succ r ih =>
    have e : 8 ^ (9 - r) = 8 * 8 ^ (8 - r) := by rw [show 9 - r = (8 - r) + 1 by omega, pow_succ, mul_comm]
    show narrow neg (num k) (narrowed neg (num k) _ r) = _
    rw [ih (by omega), e, narrow_grid neg z hneg, show 9 - (r + 1) = 8 - r by omega]
    rfl

/-- The hard negatives' sum as the kernel forms it: the entries above the threshold, and the threshold for the rest. -/
theorem kernel_hard (k : ℕ) (hk : k ≤ 5000) (hz : ∀ i, z i ≤ 8 ^ 9) (h0 : k ≤ above z 0) (n loc conf : EReal)
    (r : Fin 5000 → ℕ) (σ : Equiv.Perm (Fin 5000)) (hr : ∀ i, r i = z (σ i)) (hanti : Antitone r) :
    k0_pay2 (F := Ideal) n loc conf neg (num k) (grid (lower z k 9)) (grid 1) (ix2 0 0)
      = Ideal.div (grid (∑ i, if i.val < k then r i else 0) + conf) n + loc := by
  obtain ⟨h1, h2⟩ := threshold_spec z k hz h0
  have ht : grid (lower z k 9) + grid 1 = grid (threshold z k) := grid_add _ _
  have hsum : (∑ _x : Fin 1, ∑ x, if grid (threshold z k) < neg (ix2 0 x) then neg (ix2 0 x) else 0)
      = grid (∑ i, if threshold z k < z i then z i else 0) := by
    rw [Fin.sum_univ_one, ← grid_sum]
    refine Finset.sum_congr rfl fun i _ => ?_
    simp only [hneg, grid_lt]
    split_ifs
    · rfl
    · exact grid_zero.symm
  pointwise [k0_pay2]
  simp only [ht, hsum, count_above neg z hneg, num_sub h1]
  rw [mul_comm (num _), grid_mul, grid_add, sum_largest z r σ hr hanti k _ hk h1 h2, Nat.mul_comm (threshold z k)]

end Cert.Matching

end
-- ==== Proof.ReferenceHard.lean ====
/- The reference's hard negatives: its descending sort lists the entries from the largest down. -/
module

public import proofs.«01_k».proof.Proof.Grid
public import proofs.«01_k».proof.Proof.ReferenceStages
public import Idealize.ShloMosaic.Lib.SortFacts

@[expose] public section

set_option maxRecDepth 16384

noncomputable section

namespace Cert.Matching

open Idealize.ShloMosaic Cert.ReferenceIdeal.Gen Cert.ReferenceIdeal.Value
open Cert.ReferenceIdeal (S5000 S_ comparator_f32_d0)

/-- The comparator of the sort is the strict order. -/
theorem comparator_eq (a b : EReal) : comparator_f32_d0 (F := Ideal) a b = BitVec.ofBool (decide (a < b)) := by
  have h0 : Ideal.ofBits .f32 0x00000000#32 = 0 := by simp [Ideal.ofBits, Ideal.ieee]
  have hz : ∀ x : EReal, Scalar.select (FloatOps.cmpf (F := Ideal) (φ := .f32) .oeq x (FloatOps.ofBits .f32 0x00000000#32))
      (FloatOps.ofBits (F := Ideal) .f32 0x00000000#32) x = x := fun x => by
    show Scalar.select (Ideal.cmp .oeq x (Ideal.ofBits .f32 0x00000000#32)) (Ideal.ofBits .f32 0x00000000#32) x = x
    rw [h0]
    by_cases h : x = 0 <;> simp [Ideal.cmp, Scalar.select, h]
  have hn : ∀ x y z : EReal, Scalar.select (FloatOps.cmpf (F := Ideal) (φ := .f32) .une x x) y z = z := fun x y z => by
    show Scalar.select (Ideal.cmp .une x x) y z = z
    simp [Ideal.cmp, Scalar.select]
  unfold comparator_f32_d0
  dsimp only
  rw [hz, hz, hn, hn]
  rfl

/-- A stable sort by the strict order of whole numbers lists them from the smallest up. -/
theorem sortedFrom_le {n : ℕ} (z : Fin n → ℕ) (i j : Fin n) (hij : i ≤ j) :
    z (sortedFrom (fun k k' => decide (z k < z k')) i) ≤ z (sortedFrom (fun k k' => decide (z k < z k')) j) := by
  rcases hij.eq_or_lt with rfl | h
  · exact le_rfl
  · have := sortedFrom_noInversion (fun k k' => decide (z k < z k')) (fun k k' => decide (z k < z k'))
      (fun a b h => by simp at h ⊢; omega) (fun a b h => h) (fun a b c h h' => by simp at h h' ⊢; omega) i j h
    simpa using this

/-- Where a descending sort takes its entries from. -/
def descent {n : ℕ} (z : Fin n → ℕ) : Equiv.Perm (Fin n) :=
  Fin.revPerm.trans (Equiv.ofBijective (sortedFrom fun k k' => decide (z k < z k'))
    ⟨sortedFrom_injective _, sortedFrom_surjective _⟩)

theorem descent_apply {n : ℕ} (z : Fin n → ℕ) (i : Fin n) :
    descent z i = sortedFrom (fun k k' => decide (z k < z k')) i.rev := rfl

theorem descent_anti {n : ℕ} (z : Fin n → ℕ) : Antitone fun i => z (descent z i) := fun i j hij =>
  sortedFrom_le z j.rev i.rev (Fin.rev_le_rev.2 hij)

/-- The sort of a vector, at a position. -/
theorem sort_vector {n : ℕ} {α : Type} (cmp : α → α → BitVec 1) (x : (Shape.mk 1 ![n]).Idx → α) (j : Fin n) :
    Host.sort (Shape.mk 1 ![n]) 0 cmp x (ix1 j) = x (ix1 (sortedFrom (fun k k' => cmp (x (ix1 k)) (x (ix1 k')) == 1#1) j)) := by
  have hal : ∀ k : Fin n, (ix1 j : (Shape.mk 1 ![n]).Idx).along ⟨0, Nat.one_pos⟩ k = ix1 k := fun k => by
    funext a
    match a with
    | ⟨0, _⟩ => rfl
  unfold Host.sort
  rw [dif_pos Nat.one_pos]
  dsimp only
  exact (congrArg x (hal _)).trans (congrArg (fun c => x (ix1 (sortedFrom c j))) (funext fun k => funext fun k' =>
    congrArg₂ (fun a b => cmp (x a) (x b) == 1#1) (hal k) (hal k')))

variable (g : FVec Ideal S5000 .f32) (z : Fin 5000 → ℕ) (hg : ∀ d, g (ix1 d) = grid (z d))

include hg in
/-- The descending sort's entries. -/
theorem reversed_sort (d : Fin 5000) :
    Host.sort S5000 0 (comparator_f32_d0 (F := Ideal)) g (ix1 d.rev) = grid (z (descent z d)) := by
  refine (sort_vector (n := 5000) _ g d.rev).trans ?_
  rw [hg, descent_apply]
  congr 4
  funext k k'
  rw [comparator_eq, hg, hg]
  simp only [grid_lt]
  by_cases h : z k < z k' <;> simp [h]

include hg in
/-- The sum of the `3 n` largest. -/
theorem reference_hard (m : ℕ) (n : FVec Ideal S_ .f32) (hn : n ix0 = num m) :
    hardOf (F := Ideal) g n ix0 = grid (∑ i : Fin 5000, if i.val < 3 * m then z (descent z i) else 0) := by
  pointwise [hardOf]
  rw [hn, lit_3, num_mul, ← grid_sum]
  refine Finset.sum_congr rfl fun x _ => ?_
  refine (congrArg₂ (fun a b : EReal => a * b) (reversed_sort g z hg x) rfl).trans ?_
  have hx : FloatOps.sitofp (F := Ideal) .f32 (BitVec.ofNat 32 x.val) = num x.val := by
    have : (BitVec.ofNat 32 x.val).toInt = (x.val : ℤ) := by
      have := x.isLt
      rw [BitVec.toInt_eq_toNat_of_lt] <;> simp [BitVec.toNat_ofNat] <;> omega
    show (((BitVec.ofNat 32 x.val).toInt : ℝ) : EReal) = num x.val
    rw [this]; simp [num]
  have hb : ∀ b : Bool, FloatOps.uitofp (F := Ideal) .f32 (BitVec.ofBool b) = num (if b then 1 else 0) := fun b => by
    show (((BitVec.ofBool b).toNat : ℝ) : EReal) = _
    cases b <;> simp [num]
  simp only [hx, hb, grid_mul]
  congr 1
  by_cases h : x.val < 3 * m
  · simp [h, num_lt]
  · simp [h, num_lt]

end Cert.Matching

end
-- ==== Proof.Precondition.lean ====
/- What the precondition says of the arguments: the scores lie on a grid, and enough detections are negative. -/
module

public import proofs.«01_k».proof.Proof.Gen.Pre_scores_on_grid
public import proofs.«01_k».proof.Proof.Grid
public import proofs.«01_k».proof.Proof.Sums

@[expose] public section

set_option maxRecDepth 16384

noncomputable section

namespace Cert.Matching

open Idealize.ShloMosaic Cert.ReferenceIdeal.Value
open Cert.ReferenceIdeal (S5000 S_ S1x5000 S1x5000x4 S5000x4 S1x64x4 S1x64)
open Cert.ReferenceIdeal.Gen (bcast_S_S5000)

section
variable {F : FTy → Type} [FloatOps F]

/-- Which scores are at least zero, under one, and whole multiples of `2 ^ -27`. -/
def onGrid (s : Vec F S5000 .f32) : Vec F S5000 .i1 :=
  andi (andi (cmpf .oge s (broadcastInDim S5000 ![] bcast_S_S5000 (constant S_ .f32 0x00000000#32)))
      (cmpf .olt s (broadcastInDim S5000 ![] bcast_S_S5000 (constant S_ .f32 0x3F800000#32))))
    (cmpf .oeq (Host.floor (mulf s (broadcastInDim S5000 ![] bcast_S_S5000 (constant S_ .f32 0x4D000000#32))))
      (mulf s (broadcastInDim S5000 ![] bcast_S_S5000 (constant S_ .f32 0x4D000000#32))))

/-- Whether four times the number of positive detections is at most the number of detections. -/
def fewPositive (n : Vec F S_ .f32) : Vec F S_ .i1 :=
  cmpf .ole (mulf (constant S_ .f32 0x40800000#32) n) (constant S_ .f32 0x459C4000#32)

theorem precondition_eq (x0 : Vec F S1x5000x4 .f32) (x1 : Vec F S1x5000 .f32) (x2 : Vec F S1x5000 .i32)
    (x3 : Vec F S1x64x4 .f32) (x4 : Vec F S1x64 .i32) :
    Cert.Pre_scores_on_grid.fn (F := F) x0 x1 x2 x3 x4
      = andi (onGrid (scores x1)) (broadcastInDim S5000 ![] bcast_S_S5000 (fewPositive (nPos x0 x3 x4))) := by
  unfold Cert.Pre_scores_on_grid.fn Cert.Pre_scores_on_grid.fn_part1 Cert.Pre_scores_on_grid.fn_part2
    Cert.Pre_scores_on_grid.fn_part3 Cert.Pre_scores_on_grid.fn_part4
  rfl

end

/-- Both bits of a conjunction that is one are one. -/
theorem both {a b : BitVec 1} (h : a &&& b = 1#1) : a = 1#1 ∧ b = 1#1 := by
  revert a b; decide

theorem of_cmp {p : Prop} [Decidable p] (h : BitVec.ofBool (decide p) = 1#1) : p := by
  by_contra hp
  simp [hp] at h

/-- The bit says so. -/
theorem of_few {n : Vec Ideal S_ .f32} (h : fewPositive n ix0 = 1#1) :
    Ideal.ofBits .f32 0x40800000#32 * n ix0 ≤ Ideal.ofBits .f32 0x459C4000#32 := of_cmp h

theorem spread_apply (b : Vec Ideal S_ .i1) (d : Fin 5000) :
    broadcastInDim S5000 ![] bcast_S_S5000 b (ix1 d) = b ix0 := by
  pointwise

theorem lit_0 : Ideal.ofBits .f32 0x00000000#32 = 0 := by simp [Ideal.ofBits, Ideal.ieee]
theorem lit_1 : Ideal.ofBits .f32 0x3F800000#32 = 1 := by
  simp [Ideal.ofBits, Ideal.ieee]; rw [← EReal.coe_mul, ← EReal.coe_one]; exact congrArg _ (by norm_num)

/-- A value at least zero, under one and a multiple of `2 ^ -27` is a grid value. -/
theorem on_grid {x : EReal} (h0 : 0 ≤ x) (h1 : x < 1)
    (hf : Ideal.liftRound Int.floor (x * num (8 ^ 9)) = x * num (8 ^ 9)) : ∃ s : ℕ, s < 8 ^ 9 ∧ x = grid s := by
  induction x with
  | bot => exact absurd h0 (by simp)
  | top => exact absurd h1 (by simp)
  | coe r =>
    have h0' : 0 ≤ r := EReal.coe_nonneg.1 h0
    have h1' : r < 1 := by exact_mod_cast h1
    unfold num at hf
    rw [← EReal.coe_mul] at hf
    have hf' : ((⌊r * ((8 ^ 9 : ℕ) : ℝ)⌋ : ℤ) : ℝ) = r * ((8 ^ 9 : ℕ) : ℝ) := EReal.coe_injective hf
    have hp : 0 ≤ ⌊r * ((8 ^ 9 : ℕ) : ℝ)⌋ := Int.floor_nonneg.2 (by positivity)
    obtain ⟨s, hs⟩ := Int.eq_ofNat_of_zero_le hp
    rw [hs] at hf'
    have hf'' : (s : ℝ) = r * ((8 ^ 9 : ℕ) : ℝ) := by exact_mod_cast hf'
    have hr : r = s / 2 ^ 27 := by
      rw [hf'']; push_cast; norm_num
    refine ⟨s, ?_, ?_⟩
    · have : (s : ℝ) < ((8 ^ 9 : ℕ) : ℝ) := by
        rw [hf'']; exact mul_lt_of_lt_one_left (by norm_num) h1'
      exact_mod_cast this
    · unfold grid; rw [hr]

variable (x0 : Vec Ideal S1x5000x4 .f32) (x1 : Vec Ideal S1x5000 .f32) (x2 : Vec Ideal S1x5000 .i32)
    (x3 : Vec Ideal S1x64x4 .f32) (x4 : Vec Ideal S1x64 .i32)
    (h : Cert.Pre_scores_on_grid.fn (F := Ideal) x0 x1 x2 x3 x4 = fun _ => 1#1)
include h

theorem scores_on_grid (d : Fin 5000) : ∃ s : ℕ, s < 8 ^ 9 ∧ scores (F := Ideal) x1 (ix1 d) = grid s := by
  rw [precondition_eq] at h
  have h₁ := (both (congrFun h (ix1 d))).1
  have h₂ := both h₁
  have h₃ := both h₂.1
  have a := h₃.1
  have b := h₃.2
  have e := h₂.2
  refine on_grid ?_ ?_ ?_
  · rw [← lit_0]; exact of_cmp a
  · rw [← lit_1]; exact of_cmp b
  · rw [← lit_grid]; exact of_cmp e

theorem few_positive : 4 * positives (pos (F := Ideal) x0 x3 x4) ≤ 5000 := by
  rw [precondition_eq] at h
  have h₁ := (both (congrFun h (ix1 0))).2
  rw [spread_apply] at h₁
  have h₂ := of_few h₁
  unfold nPos posf at h₂
  rwa [reference_count, lit_4, lit_5000, num_mul, num_le] at h₂

end Cert.Matching

end
-- ==== Proof.Equation.lean ====
/- The equation: on scores of the grid with enough negative detections, the kernel's loss is the reference's. -/
module

public import proofs.«01_k».proof.Proof.Overlap
public import proofs.«01_k».proof.Proof.KernelMatching
public import proofs.«01_k».proof.Proof.ReferenceMatching
public import proofs.«01_k».proof.Proof.Sums
public import proofs.«01_k».proof.Proof.KernelSearch
public import proofs.«01_k».proof.Proof.ReferenceHard
public import proofs.«01_k».proof.Proof.Precondition

@[expose] public section

set_option maxRecDepth 16384

noncomputable section

namespace Cert.Matching

open Idealize.ShloMosaic Cert.KernelIdeal.Gen Cert.ReferenceIdeal.Value
open Cert.KernelIdeal.Run (loss found picked positive overlaps lanes objectIds narrowed)
open Cert.ReferenceIdeal (S5000 S_ S1x5000 S1x5000x4 S5000x4 S1x64x4 S1x64)

variable (x0 : Vec Ideal S1x5000x4 .f32) (x1 : Vec Ideal S1x5000 .f32) (x2 : Vec Ideal S1x5000 .i32)
    (x3 : Vec Ideal S1x64x4 .f32) (x4 : Vec Ideal S1x64 .i32)

/-! ## The matching -/

/-- The objects' corners are one array on the two sides. -/
theorem boxes_eq (o : Fin 64) (c : Fin 4) : k0_pay8 (F := Ideal) x3 (ix2 o c) = boxes (F := Ideal) x3 (ix2 o c) := by
  pointwise [k0_pay8, boxes]

/-- A label is zero on the one side exactly where it is on the other. -/
theorem label_eq (o : Fin 64) : k0_pay9 (F := Ideal) x4 (ix2 0 o) ≠ 0 ↔ labels (F := Ideal) x4 (ix1 o) ≠ 0#32 := by
  have h : labels (F := Ideal) x4 (ix1 o) = x4 (ix2 0 o) := by pointwise [labels]
  have h' : k0_pay9 (F := Ideal) x4 (ix2 0 o) = (((x4 (ix2 0 o)).toInt : ℝ) : EReal) := rfl
  rw [h, h', not_iff_not, EReal.coe_eq_zero, Int.cast_eq_zero]
  exact ⟨fun e => BitVec.eq_of_toInt_eq (e.trans rfl), fun e => by rw [e]; rfl⟩

/-- The reference's matched objects, as words. -/
theorem obj_word (d : Fin 5000) :
    obj (F := Ideal) x0 x3 (ix1 d) = BitVec.ofNat 32 (matched (overlap (F := Ideal) x0 x3) d).val :=
  reference_obj (overlap (F := Ideal) x0 x3) d

/-- The positive detections agree. -/
theorem positive_eq (d : Fin 5000) :
    positive (F := Ideal) x0 x3 x4 (ix2 0 d) = pos (F := Ideal) x0 x3 x4 (ix1 d) := by
  have hk := kernel_positive (overlap (F := Ideal) x0 x3) (k0_pay8 (F := Ideal) x3) (k0_pay9 (F := Ideal) x4) d
  have hr := reference_pos (overlap (F := Ideal) x0 x3) (obj (F := Ideal) x0 x3) (obj_word x0 x3) (labels (F := Ideal) x4)
    (ovd (F := Ideal) x0 x3) d (reference_ovd (overlap (F := Ideal) x0 x3) d)
  have hl : (fun o : Fin 64 => k0_pay9 (F := Ideal) x4 (ix2 0 o) ≠ 0) = fun o => labels (F := Ideal) x4 (ix1 o) ≠ 0#32 :=
    funext fun o => propext (label_eq x4 o)
  rw [hl] at hk
  have h : positive (F := Ideal) x0 x3 x4 (ix2 0 d) = 1#1 ↔ pos (F := Ideal) x0 x3 x4 (ix1 d) = 1#1 := by
    unfold positive pos
    rw [overlaps_eq]
    exact hk.trans hr.symm
  rcases bit_cases (positive (F := Ideal) x0 x3 x4 (ix2 0 d)) with e | e
  · rcases bit_cases (pos (F := Ideal) x0 x3 x4 (ix1 d)) with e' | e'
    · rw [e, e']
    · exact absurd ((h.2 e').symm.trans e) (by decide)
  · rw [e, h.1 e]

/-- The matched corners agree. -/
theorem corners_eq (d : Fin 5000) :
    picked (F := Ideal) x0 x3 x4 (ix2 0 d) = trueOf (F := Ideal) (boxes (F := Ideal) x3) (obj (F := Ideal) x0 x3) (ix2 d 0)
    ∧ picked (F := Ideal) x0 x3 x4 (ix2 1 d) = trueOf (F := Ideal) (boxes (F := Ideal) x3) (obj (F := Ideal) x0 x3) (ix2 d 1)
    ∧ picked (F := Ideal) x0 x3 x4 (ix2 2 d) = trueOf (F := Ideal) (boxes (F := Ideal) x3) (obj (F := Ideal) x0 x3) (ix2 d 2)
    ∧ picked (F := Ideal) x0 x3 x4 (ix2 3 d) = trueOf (F := Ideal) (boxes (F := Ideal) x3) (obj (F := Ideal) x0 x3) (ix2 d 3) := by
  obtain ⟨h0, h1, h2, h3, -⟩ := kernel_corner (overlap (F := Ideal) x0 x3) (k0_pay8 (F := Ideal) x3) (k0_pay9 (F := Ideal) x4) d
  have ht := reference_true (overlap (F := Ideal) x0 x3) (obj (F := Ideal) x0 x3) (obj_word x0 x3) (boxes (F := Ideal) x3) d
  unfold picked
  rw [overlaps_eq]
  refine ⟨h0.trans ?_, h1.trans ?_, h2.trans ?_, h3.trans ?_⟩ <;> rw [ht, boxes_eq]

/-! ## The negative confidences on the grid -/

/-- The whole number a detection's negative confidence is on the grid: zero where it is positive, else what its score
    leaves to one. -/
def level (q : IVec S5000 1) (s : Fin 5000 → ℕ) (d : Fin 5000) : ℕ := if q (ix1 d) = 1#1 then 0 else 8 ^ 9 - s d

theorem level_le (q : IVec S5000 1) (s : Fin 5000 → ℕ) (d : Fin 5000) : level q s d ≤ 8 ^ 9 := by
  unfold level
  split_ifs <;> omega

theorem one_sub_grid {s : ℕ} (hs : s < 8 ^ 9) : 1 - grid s = grid (8 ^ 9 - s) := by
  rw [← grid_one]
  unfold grid
  rw [← EReal.coe_sub]
  refine congrArg _ ?_
  rw [Nat.cast_sub hs.le]
  ring

/-- The reference's negative confidences. -/
theorem neg_level (q : IVec S5000 1) (s : Fin 5000 → ℕ) (hs : ∀ d, s d < 8 ^ 9)
    (hx : ∀ d, scores (F := Ideal) x1 (ix1 d) = grid (s d)) (d : Fin 5000) :
    negOf (F := Ideal) q (confOf (scores (F := Ideal) x1)) (ix1 d) = grid (level q s d) := by
  have hc : confOf (scores (F := Ideal) x1) (ix1 d) = 1 - scores (F := Ideal) x1 (ix1 d) := by pointwise [confOf]
  have h : negOf (F := Ideal) q (confOf (scores (F := Ideal) x1)) (ix1 d)
      = Scalar.select (q (ix1 d)) (0 : EReal) (confOf (scores (F := Ideal) x1) (ix1 d)) := by
    pointwise [negOf, id_eq]
  rw [h, hc, hx, one_sub_grid (hs d)]
  unfold level
  rcases bit_cases (q (ix1 d)) with e | e
  · simp [e, Scalar.select]
  · simp [e, Scalar.select, grid_zero]

/-- The detections with a level above zero are the negative ones. -/
theorem above_level (q : IVec S5000 1) (s : Fin 5000 → ℕ) (hs : ∀ d, s d < 8 ^ 9) :
    above (level q s) 0 + positives q = 5000 := by
  have h : (Finset.univ.filter fun d : Fin 5000 => 0 < level q s d) = Finset.univ.filter fun d => ¬ q (ix1 d) = 1#1 := by
    refine Finset.filter_congr fun d _ => ?_
    have := hs d
    unfold level
    split_ifs with e
    · simp [e]
    · simp only [e, not_false_eq_true, iff_true]; omega
  unfold above positives
  rw [h, add_comm, Finset.card_filter_add_card_filter_not, Finset.card_univ, Fintype.card_fin]

/-! ## The loss -/

/-- The search's last pair. -/
theorem found_eq (p : IVec S1x5000 1) (q : IVec S5000 1) (hpq : ∀ d, p (ix2 0 d) = q (ix1 d)) (hfew : 4 * positives q ≤ 5000)
    (z : Fin 5000 → ℕ) (hneg : ∀ d, k0_pay22 (F := Ideal) x1 p (ix2 0 d) = grid (z d)) :
    found (F := Ideal) x1 p = (grid (lower z (3 * positives q) 9), grid 1) := by
  have h0 : (Scalar.ofBits .f32 0x00000000#32 : Ideal .f32) = grid 0 := lit_0.trans grid_zero.symm
  have h1 : (Scalar.ofBits .f32 0x3F800000#32 : Ideal .f32) = grid (8 ^ 9) := lit_1.trans grid_one.symm
  unfold found
  rw [h0, h1, kernel_wanted p q hpq hfew, narrowed_grid _ z hneg _ 9 le_rfl]
  norm_num

/-- The two losses, from positive detections and matched corners that agree. -/
theorem loss_of (p : IVec S1x5000 1) (q : IVec S5000 1) (hpq : ∀ d, p (ix2 0 d) = q (ix1 d)) (hfew : 4 * positives q ≤ 5000)
    (s : Fin 5000 → ℕ) (hs : ∀ d, s d < 8 ^ 9) (hx : ∀ d, scores (F := Ideal) x1 (ix1 d) = grid (s d)) (n loc conf : EReal) :
    k0_pay2 (F := Ideal) n loc conf (k0_pay22 (F := Ideal) x1 p) (k0_pay23 (F := Ideal) p) (found (F := Ideal) x1 p).1
        (found (F := Ideal) x1 p).2 (ix2 0 0)
      = Ideal.div (hardOf (F := Ideal) (negOf (F := Ideal) q (confOf (scores (F := Ideal) x1))) (nPosOf (posfOf (F := Ideal) q)) ix0 + conf) n
        + loc := by
  have hg := neg_level x1 q s hs hx
  have hneg : ∀ d, k0_pay22 (F := Ideal) x1 p (ix2 0 d) = grid (level q s d) :=
    fun d => (neg_eq p q hpq x1 d).trans (hg d)
  have hab := above_level q s hs
  rw [found_eq x1 p q hpq hfew _ hneg, kernel_wanted p q hpq hfew, reference_hard _ _ hg _ _ (reference_count q)]
  exact kernel_hard _ _ hneg _ (by omega) (level_le q s) (by omega) n loc conf _ (descent _) (fun _ => rfl) (descent_anti _)

/-- The reference's loss from its four parts. -/
theorem lossOf_apply (h c n l : FVec Ideal S_ .f32) :
    lossOf (F := Ideal) h c n l ix0 = Ideal.div (h ix0 + c ix0) (n ix0) + l ix0 := by
  pointwise [lossOf]

theorem loss_eq (h : Cert.Pre_scores_on_grid.fn (F := Ideal) x0 x1 x2 x3 x4 = fun _ => 1#1) :
    loss (F := Ideal) x0 x1 x3 x4 (ix2 0 0) = result (F := Ideal) x0 x1 x3 x4 ix0 := by
  choose s hs hx using scores_on_grid x0 x1 x2 x3 x4 h
  have hpq := positive_eq x0 x3 x4
  unfold loss
  rw [loss_of x1 _ _ hpq (few_positive x0 x1 x2 x3 x4 h) s hs hx, kernel_count _ _ hpq, conf_pos _ _ hpq,
    loc_loss _ _ hpq x0 _ _ (corners_eq x0 x3 x4), ← reference_count]
  exact (lossOf_apply _ _ _ _).symm

/-- As results: the kernel's block read as a scalar is the reference's scalar. -/
theorem result_eq (h : Cert.Pre_scores_on_grid.fn (F := Ideal) x0 x1 x2 x3 x4 = fun _ => 1#1) :
    shapeCast Cert.KernelIdeal.S_ (loss (F := Ideal) x0 x1 x3 x4) shapeCasts_S1x1_S_ = result (F := Ideal) x0 x1 x3 x4 := by
  have e : shapeCast Cert.KernelIdeal.S_ (loss (F := Ideal) x0 x1 x3 x4) shapeCasts_S1x1_S_ ix0 = loss (F := Ideal) x0 x1 x3 x4 (ix2 0 0) := by
    pointwise
  funext j
  rw [Subsingleton.elim j ix0, e, loss_eq x0 x1 x2 x3 x4 h]

end Cert.Matching

end
-- ==== Proof.lean ====
module

public import proofs.«01_k».proof.Defs
public import proofs.«01_k».proof.Proof.Gen.Pre_scores_on_grid
public import proofs.«01_k».proof.Proof.KernelRun
public import proofs.«01_k».proof.Proof.KernelValue
public import proofs.«01_k».proof.Proof.ReferenceRun
public import proofs.«01_k».proof.Proof.Equation
public import Idealize.ShloMosaic.Lib.Quiescent

@[expose] public section

noncomputable section

namespace Cert.Proof

open Idealize.ShloMosaic Idealize.SL.Sem

theorem kernel_frame : Cert.quiescent_Kernel := fun m ρ _ => Cert.Kernel.Run.frame m ρ
theorem kernelIdeal_frame : Cert.quiescent_KernelIdeal := fun m ρ _ => Cert.KernelIdeal.Run.frame m ρ
/-- The frame needs nothing of the arguments. -/
theorem kernelIdeal_frame_on_grid : Cert.quiescent_KernelIdeal_pre_scores_on_grid :=
  fun m ρ _ => Cert.KernelIdeal.Run.frame m ρ
/-- The reference declares no semaphore. -/
theorem reference_frame : Cert.quiescent_ReferenceIdeal := fun m ρ _ =>
  (θ_run (Cert.ReferenceIdeal.defs (F := Ideal)) _ _).mono
    (fun r h => ⟨fun c => (h c).2, sem_eq_zero_of_no_sems (by decide) r.2⟩)
    (Cert.ReferenceIdeal.Value.run m ρ)
theorem reference_frame_on_grid : Cert.quiescent_ReferenceIdeal_pre_scores_on_grid :=
  fun m ρ _ => reference_frame m ρ trivial

/-- The kernel's run ends at its loss and the reference's at its own; the equation joins the two. -/
theorem losses_equal : Cert.algebraic_KernelIdeal_ReferenceIdeal_pre_scores_on_grid := by
  intro m g m' g' hpre hargs
  refine ⟨_, Cert.KernelIdeal.Run.value (F := Ideal) m g,
    (θ_run (Cert.ReferenceIdeal.defs (F := Ideal)) _ _).mono (fun r h c => ⟨(h c).1.trans ?_, (h c).2⟩)
      (Cert.ReferenceIdeal.Value.run m' g')⟩
  obtain ⟨a0, a1, -, a3, a4⟩ := hargs c
  rw [a0, a1, a3, a4]
  exact (Cert.Matching.result_eq _ _ _ _ _ (hpre c)).symm

theorem claim : Cert.Claim := ⟨Cert.Kernel.Gen.facts, Cert.KernelIdeal.Gen.facts, Cert.ReferenceIdeal.Gen.facts,
  Cert.Pre_scores_on_grid.Gen.facts, kernel_frame, kernelIdeal_frame, kernelIdeal_frame_on_grid, reference_frame,
  reference_frame_on_grid, trivial, losses_equal⟩

end Cert.Proof

end
